-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x1024 : Shape := ⟨2, ![1024, 1024]⟩
abbrev S7x128x1024 : Shape := ⟨3, ![7, 128, 1024]⟩
abbrev S14x64x1024 : Shape := ⟨3, ![14, 64, 1024]⟩
abbrev S14 : Shape := ⟨1, ![14]⟩
abbrev S_ : Shape := ⟨0, ![]⟩
abbrev S128x128 : Shape := ⟨2, ![128, 128]⟩
abbrev S1x128x1024 : Shape := ⟨3, ![1, 128, 1024]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S1024x1024, .bf16⟩
  | .local _ .vmem, ⟨0, _⟩ => ⟨S1024x128, .bf16⟩
  | .local _ .vmem, ⟨1, _⟩ => ⟨S128x1024, .bf16⟩
  | .local _ .vmem, ⟨2, _⟩ => ⟨S1024x1024, .bf16⟩
  | .local _ .vmem, ⟨3, _⟩ => ⟨S128x1024, .f32⟩
  | .local _ .vmem, ⟨4, _⟩ => ⟨S7x128x1024, .bf16⟩
  | .local _ .vmem, ⟨5, _⟩ => ⟨S14x64x1024, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) (c1_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 32 := Scalar.addi v2 c1_i32_22
  let c8_i32_23 : BitVec 32 := 8#32
  let v28 : BitVec 32 := Scalar.remsi v27 c8_i32_23
  let c128_i32 : BitVec 32 := 128#32
  let v29 : BitVec 32 := Scalar.muli v28 c128_i32
  let v30 : Index := Scalar.indexCast v29
  let c0_24 : Index := 0#32
  ![v30.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_70 : BitVec 32 := 128#32
  let v104 : BitVec 32 := Scalar.muli v2 c128_i32_70
  let v105 : Index := Scalar.indexCast v104
  let c0_71 : Index := 0#32
  ![v105.toNat, 0]
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v112 : BitVec 32 := Scalar.addi v2 c1_i32_76
  let c8_i32_77 : BitVec 32 := 8#32
  let v113 : BitVec 32 := Scalar.remsi v112 c8_i32_77
  let c1_i32_81 : BitVec 32 := 1#32
  let v114 : BitVec 32 := Scalar.muli v113 c1_i32_81
  let v115 : BitVec 32 := Scalar.addi c0_i32_82 v114
  v115.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v112 : BitVec 32 := Scalar.addi v2 c1_i32_76
  let c8_i32_77 : BitVec 32 := 8#32
  let v113 : BitVec 32 := Scalar.remsi v112 c8_i32_77
  let c1_i32_90 : BitVec 32 := 1#32
  let v124 : BitVec 32 := Scalar.muli v113 c1_i32_90
  let v125 : BitVec 32 := Scalar.addi c0_i32_91 v124
  v125.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_95 : BitVec 32 := 2#32
  let v134 : BitVec 32 := Scalar.addi v2 c2_i32_95
  let c8_i32_96 : BitVec 32 := 8#32
  let v135 : BitVec 32 := Scalar.remsi v134 c8_i32_96
  let c1_i32_100 : BitVec 32 := 1#32
  let v136 : BitVec 32 := Scalar.muli v135 c1_i32_100
  let v137 : BitVec 32 := Scalar.addi c0_i32_101 v136
  v137.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_95 : BitVec 32 := 2#32
  let v134 : BitVec 32 := Scalar.addi v2 c2_i32_95
  let c8_i32_96 : BitVec 32 := 8#32
  let v135 : BitVec 32 := Scalar.remsi v134 c8_i32_96
  let c1_i32_109 : BitVec 32 := 1#32
  let v146 : BitVec 32 := Scalar.muli v135 c1_i32_109
  let v147 : BitVec 32 := Scalar.addi c0_i32_110 v146
  v147.toNat
def k0_dev12 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v156 : BitVec 32 := Scalar.addi v2 c3_i32_115
  let c8_i32_116 : BitVec 32 := 8#32
  let v157 : BitVec 32 := Scalar.remsi v156 c8_i32_116
  let c1_i32_121 : BitVec 32 := 1#32
  let v158 : BitVec 32 := Scalar.muli v157 c1_i32_121
  let v159 : BitVec 32 := Scalar.addi c0_i32_122 v158
  v159.toNat
def k0_dev13 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v156 : BitVec 32 := Scalar.addi v2 c3_i32_115
  let c8_i32_116 : BitVec 32 := 8#32
  let v157 : BitVec 32 := Scalar.remsi v156 c8_i32_116
  let c1_i32_130 : BitVec 32 := 1#32
  let v168 : BitVec 32 := Scalar.muli v157 c1_i32_130
  let v169 : BitVec 32 := Scalar.addi c0_i32_131 v168
  v169.toNat
def k0_dev14 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v178 : BitVec 32 := Scalar.addi v2 c4_i32_136
  let c8_i32_137 : BitVec 32 := 8#32
  let v179 : BitVec 32 := Scalar.remsi v178 c8_i32_137
  let c1_i32_142 : BitVec 32 := 1#32
  let v180 : BitVec 32 := Scalar.muli v179 c1_i32_142
  let v181 : BitVec 32 := Scalar.addi c0_i32_143 v180
  v181.toNat
def k0_dev15 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v178 : BitVec 32 := Scalar.addi v2 c4_i32_136
  let c8_i32_137 : BitVec 32 := 8#32
  let v179 : BitVec 32 := Scalar.remsi v178 c8_i32_137
  let c1_i32_152 : BitVec 32 := 1#32
  let v190 : BitVec 32 := Scalar.muli v179 c1_i32_152
  let v191 : BitVec 32 := Scalar.addi c0_i32_153 v190
  v191.toNat
def k0_dev16 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_158 : BitVec 32 := 5#32
  let v200 : BitVec 32 := Scalar.addi v2 c5_i32_158
  let c8_i32_159 : BitVec 32 := 8#32
  let v201 : BitVec 32 := Scalar.remsi v200 c8_i32_159
  let c1_i32_164 : BitVec 32 := 1#32
  let v202 : BitVec 32 := Scalar.muli v201 c1_i32_164
  let v203 : BitVec 32 := Scalar.addi c0_i32_165 v202
  v203.toNat
def k0_dev17 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_158 : BitVec 32 := 5#32
  let v200 : BitVec 32 := Scalar.addi v2 c5_i32_158
  let c8_i32_159 : BitVec 32 := 8#32
  let v201 : BitVec 32 := Scalar.remsi v200 c8_i32_159
  let c1_i32_174 : BitVec 32 := 1#32
  let v212 : BitVec 32 := Scalar.muli v201 c1_i32_174
  let v213 : BitVec 32 := Scalar.addi c0_i32_175 v212
  v213.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_180 : BitVec 32 := 6#32
  let v222 : BitVec 32 := Scalar.addi v2 c6_i32_180
  let c8_i32_181 : BitVec 32 := 8#32
  let v223 : BitVec 32 := Scalar.remsi v222 c8_i32_181
  let c1_i32_186 : BitVec 32 := 1#32
  let v224 : BitVec 32 := Scalar.muli v223 c1_i32_186
  let v225 : BitVec 32 := Scalar.addi c0_i32_187 v224
  v225.toNat
def k0_dev19 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_180 : BitVec 32 := 6#32
  let v222 : BitVec 32 := Scalar.addi v2 c6_i32_180
  let c8_i32_181 : BitVec 32 := 8#32
  let v223 : BitVec 32 := Scalar.remsi v222 c8_i32_181
  let c1_i32_196 : BitVec 32 := 1#32
  let v234 : BitVec 32 := Scalar.muli v223 c1_i32_196
  let v235 : BitVec 32 := Scalar.addi c0_i32_197 v234
  v235.toNat
def k0_dev20 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_202 : BitVec 32 := 7#32
  let v244 : BitVec 32 := Scalar.addi v2 c7_i32_202
  let c8_i32_203 : BitVec 32 := 8#32
  let v245 : BitVec 32 := Scalar.remsi v244 c8_i32_203
  let c1_i32_208 : BitVec 32 := 1#32
  let v246 : BitVec 32 := Scalar.muli v245 c1_i32_208
  let v247 : BitVec 32 := Scalar.addi c0_i32_209 v246
  v247.toNat
def k0_dev21 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_202 : BitVec 32 := 7#32
  let v244 : BitVec 32 := Scalar.addi v2 c7_i32_202
  let c8_i32_203 : BitVec 32 := 8#32
  let v245 : BitVec 32 := Scalar.remsi v244 c8_i32_203
  let c1_i32_218 : BitVec 32 := 1#32
  let v256 : BitVec 32 := Scalar.muli v245 c1_i32_218
  let v257 : BitVec 32 := Scalar.addi c0_i32_219 v256
  v257.toNat
def k0_off3 (d0 : Dev nD) (c0_i32_341 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_340 : BitVec 32 := 128#32
  let v378 : BitVec 32 := Scalar.muli v2 c128_i32_340
  let v379 : BitVec 32 := Scalar.addi v378 c0_i32_341
  let v395 : Index := Scalar.indexCast v379
  let c0_348 : Index := 0#32
  ![v395.toNat, 0]
def k0_off4 (d0 : Dev nD) (c0_i32_341 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_340 : BitVec 32 := 128#32
  let v378 : BitVec 32 := Scalar.muli v2 c128_i32_340
  let v379 : BitVec 32 := Scalar.addi v378 c0_i32_341
  let c0_i32_355 : BitVec 32 := 0#32
  ![v379.toNat, 0]
def k0_dev22 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v397 : BitVec 32 := Scalar.addi v2 c1_i32_349
  let c8_i32_350 : BitVec 32 := 8#32
  let v398 : BitVec 32 := Scalar.remsi v397 c8_i32_350
  let c1_i32_353 : BitVec 32 := 1#32
  let v399 : BitVec 32 := Scalar.muli v398 c1_i32_353
  let v400 : BitVec 32 := Scalar.addi c0_i32_354 v399
  v400.toNat
def k0_dev23 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_357 : BitVec 32 := 2#32
  let v407 : BitVec 32 := Scalar.addi v2 c2_i32_357
  let c8_i32_358 : BitVec 32 := 8#32
  let v408 : BitVec 32 := Scalar.remsi v407 c8_i32_358
  let c1_i32_361 : BitVec 32 := 1#32
  let v409 : BitVec 32 := Scalar.muli v408 c1_i32_361
  let v410 : BitVec 32 := Scalar.addi c0_i32_362 v409
  v410.toNat
def k0_dev24 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_365 : BitVec 32 := 3#32
  let v417 : BitVec 32 := Scalar.addi v2 c3_i32_365
  let c8_i32_366 : BitVec 32 := 8#32
  let v418 : BitVec 32 := Scalar.remsi v417 c8_i32_366
  let c1_i32_369 : BitVec 32 := 1#32
  let v419 : BitVec 32 := Scalar.muli v418 c1_i32_369
  let v420 : BitVec 32 := Scalar.addi c0_i32_370 v419
  v420.toNat
def k0_dev25 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_373 : BitVec 32 := 4#32
  let v427 : BitVec 32 := Scalar.addi v2 c4_i32_373
  let c8_i32_374 : BitVec 32 := 8#32
  let v428 : BitVec 32 := Scalar.remsi v427 c8_i32_374
  let c1_i32_377 : BitVec 32 := 1#32
  let v429 : BitVec 32 := Scalar.muli v428 c1_i32_377
  let v430 : BitVec 32 := Scalar.addi c0_i32_378 v429
  v430.toNat
def k0_dev26 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_381 : BitVec 32 := 5#32
  let v437 : BitVec 32 := Scalar.addi v2 c5_i32_381
  let c8_i32_382 : BitVec 32 := 8#32
  let v438 : BitVec 32 := Scalar.remsi v437 c8_i32_382
  let c1_i32_385 : BitVec 32 := 1#32
  let v439 : BitVec 32 := Scalar.muli v438 c1_i32_385
  let v440 : BitVec 32 := Scalar.addi c0_i32_386 v439
  v440.toNat
def k0_dev27 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_389 : BitVec 32 := 6#32
  let v447 : BitVec 32 := Scalar.addi v2 c6_i32_389
  let c8_i32_390 : BitVec 32 := 8#32
  let v448 : BitVec 32 := Scalar.remsi v447 c8_i32_390
  let c1_i32_393 : BitVec 32 := 1#32
  let v449 : BitVec 32 := Scalar.muli v448 c1_i32_393
  let v450 : BitVec 32 := Scalar.addi c0_i32_394 v449
  v450.toNat
def k0_dev28 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_397 : BitVec 32 := 7#32
  let v457 : BitVec 32 := Scalar.addi v2 c7_i32_397
  let c8_i32_398 : BitVec 32 := 8#32
  let v458 : BitVec 32 := Scalar.remsi v457 c8_i32_398
  let c1_i32_401 : BitVec 32 := 1#32
  let v459 : BitVec 32 := Scalar.muli v458 c1_i32_401
  let v460 : BitVec 32 := Scalar.addi c0_i32_402 v459
  v460.toNat
def k0_dev29 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_528 : BitVec 32 := 1#32
  let v598 : BitVec 32 := Scalar.addi v2 c1_i32_528
  let c8_i32_529 : BitVec 32 := 8#32
  let v599 : BitVec 32 := Scalar.remsi v598 c8_i32_529
  let c1_i32_532 : BitVec 32 := 1#32
  let v600 : BitVec 32 := Scalar.muli v599 c1_i32_532
  let v601 : BitVec 32 := Scalar.addi c0_i32_533 v600
  v601.toNat
def k0_dev30 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_536 : BitVec 32 := 2#32
  let v608 : BitVec 32 := Scalar.addi v2 c2_i32_536
  let c8_i32_537 : BitVec 32 := 8#32
  let v609 : BitVec 32 := Scalar.remsi v608 c8_i32_537
  let c1_i32_540 : BitVec 32 := 1#32
  let v610 : BitVec 32 := Scalar.muli v609 c1_i32_540
  let v611 : BitVec 32 := Scalar.addi c0_i32_541 v610
  v611.toNat
def k0_dev31 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_544 : BitVec 32 := 3#32
  let v618 : BitVec 32 := Scalar.addi v2 c3_i32_544
  let c8_i32_545 : BitVec 32 := 8#32
  let v619 : BitVec 32 := Scalar.remsi v618 c8_i32_545
  let c1_i32_548 : BitVec 32 := 1#32
  let v620 : BitVec 32 := Scalar.muli v619 c1_i32_548
  let v621 : BitVec 32 := Scalar.addi c0_i32_549 v620
  v621.toNat
def k0_dev32 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_552 : BitVec 32 := 4#32
  let v628 : BitVec 32 := Scalar.addi v2 c4_i32_552
  let c8_i32_553 : BitVec 32 := 8#32
  let v629 : BitVec 32 := Scalar.remsi v628 c8_i32_553
  let c1_i32_556 : BitVec 32 := 1#32
  let v630 : BitVec 32 := Scalar.muli v629 c1_i32_556
  let v631 : BitVec 32 := Scalar.addi c0_i32_557 v630
  v631.toNat
def k0_dev33 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_560 : BitVec 32 := 5#32
  let v638 : BitVec 32 := Scalar.addi v2 c5_i32_560
  let c8_i32_561 : BitVec 32 := 8#32
  let v639 : BitVec 32 := Scalar.remsi v638 c8_i32_561
  let c1_i32_564 : BitVec 32 := 1#32
  let v640 : BitVec 32 := Scalar.muli v639 c1_i32_564
  let v641 : BitVec 32 := Scalar.addi c0_i32_565 v640
  v641.toNat
def k0_dev34 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_568 : BitVec 32 := 6#32
  let v648 : BitVec 32 := Scalar.addi v2 c6_i32_568
  let c8_i32_569 : BitVec 32 := 8#32
  let v649 : BitVec 32 := Scalar.remsi v648 c8_i32_569
  let c1_i32_572 : BitVec 32 := 1#32
  let v650 : BitVec 32 := Scalar.muli v649 c1_i32_572
  let v651 : BitVec 32 := Scalar.addi c0_i32_573 v650
  v651.toNat
def k0_dev35 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_576 : BitVec 32 := 7#32
  let v658 : BitVec 32 := Scalar.addi v2 c7_i32_576
  let c8_i32_577 : BitVec 32 := 8#32
  let v659 : BitVec 32 := Scalar.remsi v658 c8_i32_577
  let c1_i32_580 : BitVec 32 := 1#32
  let v660 : BitVec 32 := Scalar.muli v659 c1_i32_580
  let v661 : BitVec 32 := Scalar.addi c0_i32_581 v660
  v661.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Index.lean ====
/-
# Indices of the ring of eight devices

The kernel numbers its peers by distance: peer `k : Fin 7` of device `d` is the device `k + 1` further round.
Its transfers of one phase are numbered `i : Fin 14`: transfer `i` goes to peer `i / 2` and carries half `i % 2` of
that peer's rows; it lands in slot `back i` of the receiver, who finds its sender as its own peer `back i / 2`
counted the other way. This file holds that arithmetic and nothing of the program.
-/
module

public import Mathlib.Data.Fintype.Basic
public import Mathlib.Data.Fintype.Prod
public import Mathlib.Data.Fin.Basic
public import Mathlib.Tactic.FinCases
public import Mathlib.Logic.Equiv.Fin.Basic

@[expose] public section

set_option backward.proofsInPublic true

namespace Cert.Eight

/-- The device `k + 1` places after `d`. -/
def peer (d : Fin 8) (k : Fin 7) : Fin 8 := ⟨(d.val + (k.val + 1)) % 8, Nat.mod_lt _ (by decide)⟩

/-- Which peer a transfer goes to. -/
def dist (i : Fin 14) : Fin 7 := ⟨i.val / 2, by omega⟩

/-- Which half of the rows a transfer carries. -/
def half (i : Fin 14) : Fin 2 := ⟨i.val % 2, by omega⟩

/-- The transfer to peer `k` of half `a`. -/
def pair (k : Fin 7) (a : Fin 2) : Fin 14 := ⟨2 * k.val + a.val, by omega⟩

/-- The distance seen from the other end: `d` is peer `opp k` of its own peer `k`. -/
def opp (k : Fin 7) : Fin 7 := ⟨6 - k.val, by omega⟩

/-- The slot at the receiving end of a transfer, and the transfer that lands in a slot. -/
def back (i : Fin 14) : Fin 14 := ⟨2 * (6 - i.val / 2) + i.val % 2, by omega⟩

theorem dist_pair (k : Fin 7) (a : Fin 2) : dist (pair k a) = k := by revert k a; decide
theorem half_pair (k : Fin 7) (a : Fin 2) : half (pair k a) = a := by revert k a; decide
theorem pair_dist_half (i : Fin 14) : pair (dist i) (half i) = i := by revert i; decide
theorem opp_opp (k : Fin 7) : opp (opp k) = k := by revert k; decide
theorem back_back (i : Fin 14) : back (back i) = i := by revert i; decide
theorem dist_back (i : Fin 14) : dist (back i) = opp (dist i) := by revert i; decide
theorem half_back (i : Fin 14) : half (back i) = half i := by revert i; decide
theorem back_pair (k : Fin 7) (a : Fin 2) : back (pair k a) = pair (opp k) a := by revert k a; decide
theorem peer_opp (d : Fin 8) (k : Fin 7) : peer (peer d k) (opp k) = d := by revert d k; decide
theorem peer_opp' (d : Fin 8) (k : Fin 7) : peer (peer d (opp k)) k = d := by revert d k; decide
theorem peer_ne (d : Fin 8) (k : Fin 7) : peer d k ≠ d := by revert d k; decide
theorem peer_inj (d : Fin 8) : Function.Injective (peer d) := by revert d; decide

/-- The device whose number differs from `d`'s by the exclusive or with `k + 1`: whom `d` signals `k`th. -/
def mate (d : Fin 8) (k : Fin 7) : Fin 8 := ⟨(d.val ^^^ (k.val + 1)) % 8, Nat.mod_lt _ (by decide)⟩

/-- The distance at which the device signalled `k`th finds `d`. -/
def seen (d : Fin 8) (k : Fin 7) : Fin 7 := ⟨((d.val + 15 - (mate d k).val) % 8) % 7, Nat.mod_lt _ (by decide)⟩

theorem peer_mate (d : Fin 8) (k : Fin 7) : peer (mate d k) (seen d k) = d := by revert d k; decide

/-- A transfer as a pair of its peer and its half. -/
def pairEquiv : Fin 7 × Fin 2 ≃ Fin 14 where
  toFun p := pair p.1 p.2
  invFun i := (dist i, half i)
  left_inv p := Prod.ext (dist_pair _ _) (half_pair _ _)
  right_inv i := pair_dist_half i

/-- Every transfer of every device, named by its sender and number, against its receiver and slot. -/
def wire : Fin 8 × Fin 14 ≃ Fin 8 × Fin 14 where
  toFun p := (peer p.1 (dist p.2), back p.2)
  invFun p := (peer p.1 (dist p.2), back p.2)
  left_inv := by rintro ⟨d, i⟩; revert d i; decide
  right_inv := by rintro ⟨d, i⟩; revert d i; decide

/-- Every signal of every device, named by the signaller and its place in the order, against the device
    signalled and the distance at which that device finds the signaller. -/
def greet : Fin 8 × Fin 7 ≃ Fin 8 × Fin 7 where
  toFun p := (mate p.1 p.2, seen p.1 p.2)
  invFun p := (peer p.1 p.2, ⟨(((peer p.1 p.2).val ^^^ p.1.val) + 6) % 7, Nat.mod_lt _ (by decide)⟩)
  left_inv := by rintro ⟨d, i⟩; revert d i; decide
  right_inv := by rintro ⟨d, i⟩; revert d i; decide

end Cert.Eight
-- ==== Proof.Ideal.Steps.lean ====
/-
# The kernel's body as nine loops

The body is printed unrolled. Here it is written again as what it is: a loop over
the seven signals, one over the seven products, a wait, a loop over the fourteen transfers of partial sums, for each
half of the rows a loop of seven additions, the activation and a loop of seven transfers, and three loops of waits.
`body_eq` says that the two are the same program.
-/
module

public import proofs.«01_k».proof.Proof.Index
public import proofs.«01_k».proof.Proof.Gen.KernelIdeal
public import proofs.«01_k».proof.Proof.Gen.KernelIdeal.Skeleton

@[expose] public section

set_option backward.proofsInPublic true

noncomputable section

namespace Cert.KernelIdeal.Ring

open Cert.KernelIdeal Cert.KernelIdeal.Gen Cert.Eight
open Idealize.ShloMosaic Idealize.SL.Sem

variable {F : FTy → Type} [FloatOps F]

/-- A program of the kernel: its effects are those of a TensorCore. -/
abbrev Code (F : FTy → Type) (α : Type) := Prog (TpuEff nD τ sig (Elt F) Λ₀ .tc) α

/-- Run `f 0`, `f 1`, …, `f (n - 1)` in this order. -/
def steps : (n : Nat) → (Fin n → Code F PUnit) → Code F PUnit
  | 0, _ => pure ⟨⟩
  | n + 1, f => f 0 >>= fun _ => steps n fun i => f i.succ

/-! ## Memory operands -/

abbrev xM : Memref sig .tc .vmem S1024x128 .bf16 := Memref.whole cc0_stg0_0
abbrev wM : Memref sig .tc .vmem S128x1024 .bf16 := Memref.whole cc0_stg1_0
abbrev outM : Memref sig .tc .vmem S1024x1024 .bf16 := Memref.whole cc0_stg2_0
abbrev redM : Memref sig .tc .vmem S128x1024 .f32 := Memref.whole cc0_scratch0
abbrev pbfM : Memref sig .tc .vmem S7x128x1024 .bf16 := Memref.whole cc0_scratch1
abbrev rsM : Memref sig .tc .vmem S14x64x1024 .bf16 := Memref.whole cc0_scratch2

theorem slab_inb (k : Fin 7) : ∀ a, (![k.val, 0, 0] : Fin 3 → Nat) a + S1x128x1024.size a ≤ S7x128x1024.size a := by
  revert k; decide
theorem piece_inb (i : Fin 14) : ∀ a, (![i.val / 2, 64 * (i.val % 2), 0] : Fin 3 → Nat) a + S1x64x1024.size a ≤ S7x128x1024.size a := by
  revert i; decide
theorem slot_inb (i : Fin 14) : ∀ a, (![i.val, 0, 0] : Fin 3 → Nat) a + S1x64x1024.size a ≤ S14x64x1024.size a := by
  revert i; decide
theorem part_inb (a : Fin 2) : ∀ b, (![64 * a.val, 0] : Fin 2 → Nat) b + S64x1024.size b ≤ S128x1024.size b := by
  revert a; decide
theorem sem_inb (i : Fin 14) : ∀ a, (![i.val] : Fin 1 → Nat) a + S1.size a ≤ S14.size a := by
  revert i; decide

/-- The rectangles the body addresses. -/
abbrev allW : Rect S128x1024 := Rect.unit ![0, 0] S128x1024.size inb_S128x1024_S128x1024_0_0
abbrev sendRows (d : Dev nD) (k : Fin 7) : Rect S1024x128 := Rect.unit (k0_off1 d (BitVec.ofNat 32 (1 + k.val))) S128x128.size (k0_off1_inb d k)
abbrev ownRows (d : Dev nD) : Rect S1024x128 := Rect.unit (k0_off2 d) S128x128.size (k0_off2_inb d)
abbrev slab (k : Fin 7) : Rect S7x128x1024 := Rect.unit ![k.val, 0, 0] S1x128x1024.size (slab_inb k)
abbrev piece (i : Fin 14) : Rect S7x128x1024 := Rect.unit ![i.val / 2, 64 * (i.val % 2), 0] S1x64x1024.size (piece_inb i)
abbrev slot (i : Fin 14) : Rect S14x64x1024 := Rect.unit ![i.val, 0, 0] S1x64x1024.size (slot_inb i)
abbrev part (a : Fin 2) : Rect S128x1024 := Rect.unit ![64 * a.val, 0] S64x1024.size (part_inb a)
abbrev storeRows (d : Dev nD) (a : Fin 2) : Rect S1024x1024 := Rect.unit (k0_off3 d (BitVec.ofNat 32 (64 * a.val))) S64x1024.size (k0_off3_inb d a)
abbrev shareRows (d : Dev nD) (a : Fin 2) : Rect S1024x1024 := Rect.unit (k0_off4 d (BitVec.ofNat 32 (64 * a.val))) S64x1024.size (k0_off4_inb d a)

/-- The operands of the transfers. -/
abbrev pieceM (i : Fin 14) : Memref sig .tc .vmem S64x1024 .bf16 :=
  (pbfM.slice (piece i) (fun _ => rfl)).squeeze S64x1024 squeezes_S1x64x1024_S64x1024
abbrev slotM (i : Fin 14) : Memref sig .tc .vmem S64x1024 .bf16 :=
  (rsM.slice (slot i) (fun _ => rfl)).squeeze S64x1024 squeezes_S1x64x1024_S64x1024
abbrev shareM (d : Dev nD) (a : Fin 2) : Memref sig .tc .vmem S64x1024 .bf16 :=
  outM.slice (shareRows d a) (fun _ => rfl)

/-- Semaphore `i` of an array of fourteen. -/
abbrev semOf (A : DmaSems sig S14) (i : Fin 14) : DmaSem sig :=
  ((A.slice (Rect.unit (s := S14) ![i.val] S1.size (sem_inb i))).squeeze S_ squeezes_S1_S_).sem
abbrev barS : Sem sig := (SemArray.scalar (sig.barrier 0 rfl) : Sems sig S_).sem

/-! ## What the operations need of them -/

theorem slab_packed (k : Fin 7) : (slab k).PackedRows (EltTy.packing .bf16) := by
  fin_cases k
  · exact packedbf16_S7x128x1024_S1x128x1024_0_0_0
  · exact packedbf16_S7x128x1024_S1x128x1024_1_0_0
  · exact packedbf16_S7x128x1024_S1x128x1024_2_0_0
  · exact packedbf16_S7x128x1024_S1x128x1024_3_0_0
  · exact packedbf16_S7x128x1024_S1x128x1024_4_0_0
  · exact packedbf16_S7x128x1024_S1x128x1024_5_0_0
  · exact packedbf16_S7x128x1024_S1x128x1024_6_0_0

theorem piece_words (i : Fin 14) : (piece i).WholeWords (EltTy.packing .bf16) := by
  fin_cases i
  · exact wordsbf16_S7x128x1024_S1x64x1024_0_0_0
  · exact wordsbf16_S7x128x1024_S1x64x1024_0_64_0
  · exact wordsbf16_S7x128x1024_S1x64x1024_1_0_0
  · exact wordsbf16_S7x128x1024_S1x64x1024_1_64_0
  · exact wordsbf16_S7x128x1024_S1x64x1024_2_0_0
  · exact wordsbf16_S7x128x1024_S1x64x1024_2_64_0
  · exact wordsbf16_S7x128x1024_S1x64x1024_3_0_0
  · exact wordsbf16_S7x128x1024_S1x64x1024_3_64_0
  · exact wordsbf16_S7x128x1024_S1x64x1024_4_0_0
  · exact wordsbf16_S7x128x1024_S1x64x1024_4_64_0
  · exact wordsbf16_S7x128x1024_S1x64x1024_5_0_0
  · exact wordsbf16_S7x128x1024_S1x64x1024_5_64_0
  · exact wordsbf16_S7x128x1024_S1x64x1024_6_0_0
  · exact wordsbf16_S7x128x1024_S1x64x1024_6_64_0

theorem slot_words (i : Fin 14) : (slot i).WholeWords (EltTy.packing .bf16) := by
  fin_cases i
  · exact wordsbf16_S14x64x1024_S1x64x1024_0_0_0
  · exact wordsbf16_S14x64x1024_S1x64x1024_1_0_0
  · exact wordsbf16_S14x64x1024_S1x64x1024_2_0_0
  · exact wordsbf16_S14x64x1024_S1x64x1024_3_0_0
  · exact wordsbf16_S14x64x1024_S1x64x1024_4_0_0
  · exact wordsbf16_S14x64x1024_S1x64x1024_5_0_0
  · exact wordsbf16_S14x64x1024_S1x64x1024_6_0_0
  · exact wordsbf16_S14x64x1024_S1x64x1024_7_0_0
  · exact wordsbf16_S14x64x1024_S1x64x1024_8_0_0
  · exact wordsbf16_S14x64x1024_S1x64x1024_9_0_0
  · exact wordsbf16_S14x64x1024_S1x64x1024_10_0_0
  · exact wordsbf16_S14x64x1024_S1x64x1024_11_0_0
  · exact wordsbf16_S14x64x1024_S1x64x1024_12_0_0
  · exact wordsbf16_S14x64x1024_S1x64x1024_13_0_0

abbrev pieceExact (i : Fin 14) := ((Memref.isWhole_whole cc0_scratch1).wordExact_slice rfl _ (piece_words i)).reshape S64x1024 squeezes_S1x64x1024_S64x1024.numel_eq
abbrev slotExact (i : Fin 14) := ((Memref.isWhole_whole cc0_scratch2).wordExact_slice rfl _ (slot_words i)).reshape S64x1024 squeezes_S1x64x1024_S64x1024.numel_eq
abbrev shareExact (d : Dev nD) (a : Fin 2) := (Memref.isWhole_whole cc0_stg2_0).wordExact_slice rfl _ (k0_off4_wordsbf16 d a)

/-! ## The devices addressed, as the kernel computes them -/

def signalled (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩]

def scattered (d : Dev nD) : Fin 14 → Dev nD :=
  ![⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩, ⟨k0_dev15 d, k0_dev15_lt d⟩,
    ⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩]

def gathered (d : Dev nD) : Fin 2 → Fin 7 → Dev nD :=
  ![![⟨k0_dev22 d, k0_dev22_lt d⟩, ⟨k0_dev23 d, k0_dev23_lt d⟩, ⟨k0_dev24 d, k0_dev24_lt d⟩, ⟨k0_dev25 d, k0_dev25_lt d⟩,
      ⟨k0_dev26 d, k0_dev26_lt d⟩, ⟨k0_dev27 d, k0_dev27_lt d⟩, ⟨k0_dev28 d, k0_dev28_lt d⟩],
    ![⟨k0_dev29 d, k0_dev29_lt d⟩, ⟨k0_dev30 d, k0_dev30_lt d⟩, ⟨k0_dev31 d, k0_dev31_lt d⟩, ⟨k0_dev32 d, k0_dev32_lt d⟩,
      ⟨k0_dev33 d, k0_dev33_lt d⟩, ⟨k0_dev34 d, k0_dev34_lt d⟩, ⟨k0_dev35 d, k0_dev35_lt d⟩]]

/-! ## The steps -/

/-- Tell the `k`th device of the signalling order that this one has entered. -/
def signalStep (d : Dev nD) (k : Fin 7) : Code F PUnit :=
  semSignalWord (signalled d k) barS 1#32

/-- Multiply the rows that peer `k` is to own by this device's block of the weights, into slab `k`. -/
def productStep (d : Dev nD) (w : Vec F S128x1024 .bf16) (k : Fin 7) : Code F PUnit := do
  let x : Vec F S128x128 .bf16 ← Prog.lift (.load xM (sendRows d k).toLoadRect (View.loadsAt_vmem h_S128x128))
  let _ : Vec F S1x128x1024 .bf16 ← Prog.lift (.load pbfM (slab k).toLoadRect (View.loadsAt_vmem h_S1x128x1024))
  Prog.lift (.store pbfM (slab k) (k0_pay2 w x) Finset.univ (View.stores_vmem h_S1x128x1024 ((Memref.isWhole_whole cc0_scratch1).storeExact_slice rfl _ (slab_packed k)) (fun _ => rfl)) (.inl rfl))

/-- The same product of this device's own rows, kept at full precision. -/
def ownStep (d : Dev nD) (w : Vec F S128x1024 .bf16) : Code F PUnit := do
  let x : Vec F S128x128 .bf16 ← Prog.lift (.load xM (ownRows d).toLoadRect (View.loadsAt_vmem h_S128x128))
  let _ : Vec F S128x1024 .f32 ← Prog.lift (.load redM allW.toLoadRect (View.loadsAt_vmem h_S128x1024))
  Prog.lift (.store redM allW (k0_pay11 (k0_pay1 w) x) Finset.univ (View.stores_vmem_bits_univ h_S128x1024 rfl) (.inl rfl))

/-- Start transfer `i` of the partial sums, addressed to device `n`; -/
def scatterTo (i : Fin 14) (n : Dev nD) : Code F PUnit :=
  Prog.lift (.enqueueDma (pieceM i) (.remote (Dev.tc n) (slotM (back i)) (.dma (semOf cc0_scratch3 i))) (.dma (semOf cc0_scratch4 (back i))) (pieceExact i) (slotExact (back i)) ⟨⟨rfl, Or.inl rfl⟩, trivial⟩)

/-- to the device it goes to. -/
def scatterStep (d : Dev nD) (i : Fin 14) : Code F PUnit := scatterTo i (scattered d i)

/-- Await the partial sums of half `a` in the slot of peer `k` and add them to this device's own. -/
def addStep (a : Fin 2) (k : Fin 7) : Code F PUnit := do
  Prog.lift (.waitDma2 (semOf cc0_scratch4 (pair k a)) (slotM (pair k a)) (slotM (pair k a)) (slotExact (pair k a)) (slotExact (pair k a)))
  let r : Vec F S64x1024 .f32 ← Prog.lift (.load redM (part a).toLoadRect (View.loadsAt_vmem h_S64x1024))
  let s : Vec F S1x64x1024 .bf16 ← Prog.lift (.load rsM (slot (pair k a)).toLoadRect (View.loadsAt_vmem h_S1x64x1024))
  let _ : Vec F S64x1024 .f32 ← Prog.lift (.load redM (part a).toLoadRect (View.loadsAt_vmem h_S64x1024))
  Prog.lift (.store redM (part a) (k0_pay12 r s) Finset.univ (View.stores_vmem_bits_univ h_S64x1024 rfl) (.inl rfl))

/-- Apply the activation to half `a` of the sum and write it to this device's rows of the result. -/
def actStep (d : Dev nD) (a : Fin 2) : Code F PUnit := do
  let r : Vec F S64x1024 .f32 ← Prog.lift (.load redM (part a).toLoadRect (View.loadsAt_vmem h_S64x1024))
  let _ : Vec F S64x1024 .bf16 ← Prog.lift (.load outM (storeRows d a).toLoadRect (View.loadsAt_vmem h_S64x1024))
  Prog.lift (.store outM (storeRows d a) (k0_pay19 r) Finset.univ (View.stores_vmem h_S64x1024 ((Memref.isWhole_whole cc0_stg2_0).storeExact_slice rfl _ (k0_off3_packedbf16 d a)) (fun _ => rfl)) (.inl rfl))

/-- Start the transfer of half `a` of this device's rows of the result that is meant for peer `k`, addressed to device `n`; -/
def gatherTo (d : Dev nD) (a : Fin 2) (k : Fin 7) (n : Dev nD) : Code F PUnit :=
  Prog.lift (.enqueueDma (shareM d a) (.remote (Dev.tc n) (shareM d a) (.dma (semOf cc0_scratch5 (pair k a)))) (.dma (semOf cc0_scratch6 (pair (opp k) a))) (shareExact d a) (shareExact d a) ⟨⟨rfl, Or.inl rfl⟩, trivial⟩)

/-- to peer `k`. -/
def gatherStep (d : Dev nD) (a : Fin 2) (k : Fin 7) : Code F PUnit := gatherTo d a k (gathered d a k)

/-- Await arrival `i` of the result. -/
def arriveStep (i : Fin 14) : Code F PUnit :=
  Prog.lift (.waitDma2 (semOf cc0_scratch6 i) (slotM 0) (slotM 0) (slotExact 0) (slotExact 0))

/-- Await the end of this device's own transfer `i` of partial sums. -/
def scatteredStep (i : Fin 14) : Code F PUnit :=
  Prog.lift (.waitDma2 (semOf cc0_scratch3 i) (slotM (back i)) (pieceM i) (slotExact (back i)) (pieceExact i))

/-- Await the end of this device's own transfer of half `a` of its result to peer `k`. -/
def gatheredStep (d : Dev nD) (a : Fin 2) (k : Fin 7) : Code F PUnit :=
  Prog.lift (.waitDma2 (semOf cc0_scratch5 (pair k a)) (shareM d a) (shareM d a) (shareExact d a) (shareExact d a))

/-- One half: its seven additions, its activation and its seven transfers. -/
def halfSteps (d : Dev nD) (a : Fin 2) : Code F PUnit := do
  steps 7 (addStep a)
  actStep d a
  steps 7 (gatherStep d a)

/-- The whole body, on device `d`. -/
def bodySteps (d : Dev nD) : Code F PUnit := do
  steps 7 (signalStep d)
  let w : Vec F S128x1024 .bf16 ← Prog.lift (.load wM allW.toLoadRect (View.loadsAt_vmem h_S128x1024))
  steps 7 (productStep d w)
  ownStep d w
  semWaitWord barS 7#32
  steps 14 (scatterStep d)
  halfSteps d 0
  halfSteps d 1
  steps 14 arriveStep
  steps 14 scatteredStep
  steps 7 (gatheredStep d 0)
  steps 7 (gatheredStep d 1)

set_option maxRecDepth 65536 in
set_option maxHeartbeats 4000000 in
/-- The printed body, on the buffers the launch hands it, is the loops above after asking which device it is on. -/
theorem body_eq : cc0_body (F := F) xM (Memref.isWhole_whole _) wM (Memref.isWhole_whole _) outM (Memref.isWhole_whole _)
      redM (Memref.isWhole_whole _) pbfM (Memref.isWhole_whole _) rsM (Memref.isWhole_whole _)
      cc0_scratch3 cc0_scratch4 cc0_scratch5 cc0_scratch6
    = (Prog.lift .deviceId >>= fun d => bodySteps d) := by
  rfl

end Cert.KernelIdeal.Ring
end
-- ==== Proof.Ideal.Contents.lean ====
/-
# What every buffer holds, as functions of the blocks

Each buffer that travels is described once, by one function of the eight blocks of the two arguments: the partial
products of a device, the partial sums it receives, its running sum after `n` additions, and the result. A piece of a
buffer is then held at the whole buffer's function, and pieces are put together without a choice of contents.
The lemmas of the second half say that an access at one of the body's rectangles reads what these functions say.
-/
module

public import proofs.«01_k».proof.Proof.Ideal.Steps
public import Idealize.ShloMosaic.Lib.ValueIdxCore

@[expose] public section

set_option backward.proofsInPublic true

noncomputable section

namespace Cert.KernelIdeal.Ring

open Cert.KernelIdeal Cert.KernelIdeal.Gen Cert.Eight
open Idealize.ShloMosaic Idealize.SL.Sem
open Idealize.ShloMosaic.ValueIdx (ix2 ix3 eq_ix2 eq_ix3)

variable {F : FTy → Type} [FloatOps F]

/-! The blocks `xs` of the activations and `ws` of the weights are taken device by device. -/
variable (xs : Dev nD → Vec F S1024x128 .bf16) (ws : Dev nD → Vec F S128x1024 .bf16)

/-! ## The functions -/

/-- The weights as device `c` loads them. -/
def wAt (c : Dev nD) : Vec F S128x1024 .bf16 := (wM.access allW).read (Elt F) (ws c)

/-- The rows of the activations that device `c` multiplies for its peer `k`, and those it multiplies for itself. -/
def xAt (c : Dev nD) (k : Fin 7) : Vec F S128x128 .bf16 := (xM.access (sendRows c k)).read (Elt F) (xs c)
def xOwn (c : Dev nD) : Vec F S128x128 .bf16 := (xM.access (ownRows c)).read (Elt F) (xs c)

/-- The product device `c` makes for its peer `k`. -/
def prodAt (c : Dev nD) (k : Fin 7) : Vec F S1x128x1024 .bf16 := k0_pay2 (wAt ws c) (xAt xs c k)

/-- All seven products of device `c`. -/
def pbfC (c : Dev nD) : Vec F S7x128x1024 .bf16 := fun j => prodAt xs ws c (j 0) (ix3 0 (j 1) (j 2))

/-- The fourteen half blocks device `c` receives: slot `i` holds transfer `back i` of its peer `dist i`. -/
def rsC (c : Dev nD) : Vec F S14x64x1024 .bf16 := fun j =>
  pbfC xs ws (peer c (dist (j 0))) (ix3 (dist (back (j 0))) ⟨64 * (half (j 0)).val + (j 1).val, by have := (j 1).isLt; have := (half (j 0)).isLt; simp only [Shape.size, Matrix.cons_val_one, Matrix.cons_val_zero] at *; omega⟩ (j 2))

/-- Half block `i` as it is loaded for the addition. -/
def rsAt (c : Dev nD) (i : Fin 14) : Vec F S1x64x1024 .bf16 := (rsM.access (slot i)).read (Elt F) (rsC xs ws c)

/-- Device `c`'s product of its own rows. -/
def ownC (c : Dev nD) : Vec F S128x1024 .f32 := k0_pay11 (k0_pay1 (wAt ws c)) (xOwn xs c)

/-- Half `a` of device `c`'s running sum after the additions of its first `n` peers. -/
def sumAt (c : Dev nD) (a : Fin 2) : ℕ → Vec F S64x1024 .f32
  | 0 => (redM.access (part a)).read (Elt F) (ownC xs ws c)
  | n + 1 => k0_pay12 (sumAt c a n) (rsAt xs ws c (pair (Fin.ofNat 7 n) a))

/-- The running sum's buffer, of which half `a` is at `n` additions. -/
def redC (c : Dev nD) (a : Fin 2) (n : ℕ) : Vec F S128x1024 .f32 := fun j =>
  sumAt xs ws c a n (ix2 ⟨(j 0).val % 64, Nat.mod_lt _ (by decide)⟩ (j 1))

/-- Half `a` of device `c`'s rows of the result. -/
def actAt (c : Dev nD) (a : Fin 2) : Vec F S64x1024 .bf16 := k0_pay19 (sumAt xs ws c a 7)

/-- The device and the half that a row of the result belongs to. -/
def rowDev (n : Fin 1024) : Dev nD := ⟨n.val / 128, by have := n.isLt; simp only [nD]; omega⟩
def rowHalf (n : Fin 1024) : Fin 2 := ⟨n.val % 128 / 64, by omega⟩

/-- The result: the same on every device. -/
def outC : Vec F S1024x1024 .bf16 := fun j =>
  actAt xs ws (rowDev (j 0)) (rowHalf (j 0)) (ix2 ⟨(j 0).val % 64, Nat.mod_lt _ (by decide)⟩ (j 1))

/-! ## What the rectangles are -/

theorem peer_val (d : Dev nD) (k : Fin 7) : ((peer d k : Fin 8) : ℕ) = (d.val + k.val + 1) % 8 := by
  show (d.val + (k.val + 1)) % 8 = _; rw [← Nat.add_assoc]

theorem sendRows_eq (d : Dev nD) (k : Fin 7) : k0_off1 d (BitVec.ofNat 32 (1 + k.val)) = ![128 * (peer d k).val, 0] := by
  rw [k0_off1_eq, peer_val]
theorem storeRows_eq (d : Dev nD) (a : Fin 2) : k0_off3 d (BitVec.ofNat 32 (64 * a.val)) = ![128 * d.val + 64 * a.val, 0] := k0_off3_eq d a
theorem shareRows_eq (d : Dev nD) (a : Fin 2) : k0_off4 d (BitVec.ofNat 32 (64 * a.val)) = ![128 * d.val + 64 * a.val, 0] := k0_off4_eq d a
/-- The rows of the result are stored and sent by one rectangle. -/
theorem storeRows_shareRows (d : Dev nD) (a : Fin 2) : storeRows d a = shareRows d a := by
  have h : k0_off3 d (BitVec.ofNat 32 (64 * a.val)) = k0_off4 d (BitVec.ofNat 32 (64 * a.val)) :=
    (storeRows_eq d a).trans (shareRows_eq d a).symm
  unfold storeRows shareRows; congr 1

/-! ## Which piece an element lies in -/

def slabOf (j : S7x128x1024.Idx) : Fin 7 := j 0
def pieceOf (j : S7x128x1024.Idx) : Fin 14 := ⟨2 * (j 0).val + (j 1).val / 64, by
  have h0 : (j 0).val < 7 := (j 0).isLt; have h1 : (j 1).val < 128 := (j 1).isLt; omega⟩
def slotOf (j : S14x64x1024.Idx) : Fin 14 := j 0
def partOf (j : S128x1024.Idx) : Fin 2 := ⟨(j 0).val / 64, by have h0 : (j 0).val < 128 := (j 0).isLt; omega⟩
def shareOf (j : S1024x1024.Idx) : Dev nD × Fin 2 := (rowDev (j 0), rowHalf (j 0))

theorem mem_slab (k : Fin 7) (j : S7x128x1024.Idx) : j ∈ (slab k).set ↔ slabOf j = k := by
  have h1 : (j 1).val < 128 := (j 1).isLt
  have h2 : (j 2).val < 1024 := (j 2).isLt
  rw [Rect.mem_set_unit, Fin.forall_fin_succ, Fin.forall_fin_two]
  simp only [slabOf, Fin.ext_iff]
  simp [Matrix.cons_val_zero]
  omega

theorem mem_piece (i : Fin 14) (j : S7x128x1024.Idx) : j ∈ (piece i).set ↔ pieceOf j = i := by
  have h0 : (j 0).val < 7 := (j 0).isLt
  have h1 : (j 1).val < 128 := (j 1).isLt
  have h2 : (j 2).val < 1024 := (j 2).isLt
  rw [Rect.mem_set_unit, Fin.forall_fin_succ, Fin.forall_fin_two]
  simp only [pieceOf, Fin.ext_iff]
  simp [Matrix.cons_val_zero]
  omega

theorem mem_slot (i : Fin 14) (j : S14x64x1024.Idx) : j ∈ (slot i).set ↔ slotOf j = i := by
  have h1 : (j 1).val < 64 := (j 1).isLt
  have h2 : (j 2).val < 1024 := (j 2).isLt
  rw [Rect.mem_set_unit, Fin.forall_fin_succ, Fin.forall_fin_two]
  simp only [slotOf, Fin.ext_iff]
  simp [Matrix.cons_val_zero]
  omega

theorem mem_part (a : Fin 2) (j : S128x1024.Idx) : j ∈ (part a).set ↔ partOf j = a := by
  have h0 : (j 0).val < 128 := (j 0).isLt
  have h1 : (j 1).val < 1024 := (j 1).isLt
  rw [Rect.mem_set_unit, Fin.forall_fin_two]
  simp only [partOf, Fin.ext_iff]
  simp [Matrix.cons_val_zero]
  omega

theorem mem_share (d : Dev nD) (a : Fin 2) (j : S1024x1024.Idx) : j ∈ (shareRows d a).set ↔ shareOf j = (d, a) := by
  have h0 : (j 0).val < 1024 := (j 0).isLt
  have h1 : (j 1).val < 1024 := (j 1).isLt
  rw [Rect.mem_set_unit, Fin.forall_fin_two, shareRows_eq]
  simp only [shareOf, rowDev, rowHalf, Fin.ext_iff, Prod.ext_iff]
  simp [Matrix.cons_val_zero]
  omega

/-! ## What the accesses read -/

theorem read_slab (c : Dev nD) (k : Fin 7) : (pbfM.access (slab k)).read (Elt F) (pbfC xs ws c) = prodAt xs ws c k := by
  funext y
  have h0 : (slab k).emb y 0 = k := Fin.ext (by have : (y 0).val < 1 := (y 0).isLt; simp [Rect.emb_apply]; omega)
  show prodAt xs ws c ((slab k).emb y 0) (ix3 0 ((slab k).emb y 1) ((slab k).emb y 2)) = _
  rw [h0]
  congr 1
  funext b
  match b with
  | ⟨0, _⟩ => exact Fin.ext (by have : (y 0).val < 1 := (y 0).isLt; simp; omega)
  | ⟨1, _⟩ => exact Fin.ext (by simp [Rect.emb_apply])
  | ⟨2, _⟩ => exact Fin.ext (by simp [Rect.emb_apply])

theorem read_part (c : Dev nD) (a : Fin 2) (n : ℕ) : (redM.access (part a)).read (Elt F) (redC xs ws c a n) = sumAt xs ws c a n := by
  funext y
  show sumAt xs ws c a n (ix2 ⟨((part a).emb y 0).val % 64, _⟩ ((part a).emb y 1)) = _
  congr 1
  funext b
  match b with
  | ⟨0, _⟩ => exact Fin.ext (by have : (y 0).val < 64 := (y 0).isLt; simp [Rect.emb_apply]; omega)
  | ⟨1, _⟩ => exact Fin.ext (by simp [Rect.emb_apply])

/-- Before any addition the buffer holds this device's own product. -/
theorem redC_zero (c : Dev nD) (a : Fin 2) : ∀ j ∈ (part a).set, ownC xs ws c j = redC xs ws c a 0 j := by
  intro j hj
  have ha := (mem_part a j).mp hj
  have h0 : (j 0).val < 128 := (j 0).isLt
  show _ = ownC xs ws c ((part a).emb (ix2 ⟨(j 0).val % 64, _⟩ (j 1)))
  congr 1
  funext b
  match b with
  | ⟨0, _⟩ =>
    exact Fin.ext (by
      have : (j 0).val / 64 = a.val := congrArg Fin.val ha
      simp [Rect.emb_apply]; omega)
  | ⟨1, _⟩ => exact Fin.ext (by simp [Rect.emb_apply])

theorem read_share (c : Dev nD) (a : Fin 2) : (outM.access (shareRows c a)).read (Elt F) (outC xs ws) = actAt xs ws c a := by
  funext y
  have hmem : (shareRows c a).emb y ∈ (shareRows c a).set := by rw [← Rect.map_emb_univ]; exact Finset.mem_map_of_mem _ (Finset.mem_univ y)
  have hs := (mem_share c a _).mp hmem
  show actAt xs ws (shareOf ((shareRows c a).emb y)).1 (shareOf ((shareRows c a).emb y)).2 (ix2 ⟨((shareRows c a).emb y 0).val % 64, _⟩ ((shareRows c a).emb y 1)) = _
  rw [hs]
  congr 1
  funext b
  match b with
  | ⟨0, _⟩ => exact Fin.ext (by have : (y 0).val < 64 := (y 0).isLt; simp [Rect.emb_apply, shareRows_eq]; omega)
  | ⟨1, _⟩ => exact Fin.ext (by simp [Rect.emb_apply, shareRows_eq])

theorem read_store (c : Dev nD) (a : Fin 2) : (outM.access (storeRows c a)).read (Elt F) (outC xs ws) = actAt xs ws c a := by
  rw [← read_share]
  funext y
  show outC xs ws ((storeRows c a).emb y) = outC xs ws ((shareRows c a).emb y)
  congr 1

/-- What a transfer of partial sums puts in its slot is what the slot is to hold. -/
theorem read_sent (c : Dev nD) (i : Fin 14) :
    (slotM (back i)).view.read (Elt F) (rsC xs ws (peer c (dist i))) = (pieceM i).view.read (Elt F) (pbfC xs ws c) := by
  have key : ∀ y : S1x64x1024.Idx, rsC xs ws (peer c (dist i)) ((slot (back i)).emb y) = pbfC xs ws c ((piece i).emb y) := by
    intro y
    have hy : (y 0).val < 1 := (y 0).isLt
    have h0 : (slot (back i)).emb y 0 = back i := Fin.ext (by simp [Rect.emb_apply]; omega)
    show pbfC xs ws (peer (peer c (dist i)) (dist ((slot (back i)).emb y 0))) (ix3 (dist (back ((slot (back i)).emb y 0)))
      ⟨64 * (half ((slot (back i)).emb y 0)).val + ((slot (back i)).emb y 1).val, _⟩ ((slot (back i)).emb y 2)) = _
    have e1 : peer (peer c (dist i)) (dist ((slot (back i)).emb y 0)) = c := by rw [h0, dist_back, peer_opp]
    rw [e1]
    congr 1
    funext b
    match b with
    | ⟨0, _⟩ =>
      show dist (back ((slot (back i)).emb y 0)) = _
      rw [h0, back_back]
      exact Fin.ext (by simp [Rect.emb_apply, dist]; omega)
    | ⟨1, _⟩ =>
      refine Fin.ext ?_
      show 64 * (half ((slot (back i)).emb y 0)).val + ((slot (back i)).emb y 1).val = _
      rw [h0, half_back]
      simp [Rect.emb_apply, half]
    | ⟨2, _⟩ => exact Fin.ext (by simp [Rect.emb_apply])
  funext x
  exact key _

end Cert.KernelIdeal.Ring
end
-- ==== Proof.Ideal.Cells.lean ====
/-
# The semaphores and what their counts mean

A device has fifty-seven semaphore cells of its own making: the barrier and four arrays of fourteen transfer semaphores.
Every cell has one round. On the barrier each of the seven other devices has one duty of one unit, and with it hands over
the places that the owner of the cell is going to write on that device: two slots for partial sums and two half blocks of
the result. A transfer semaphore has one duty, and what comes with it is the piece of memory the transfer is done with:
the source again on the sending side, the destination with its new contents on the receiving side.
-/
module

public import proofs.«01_k».proof.Proof.Ideal.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's own, and rounds with seven duties -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (xs : Dev nD → Vec F S1024x128 .bf16) (ws : Dev nD → Vec F S128x1024 .bf16)

/-! ## The cells -/

/-- A device's cells: the barrier, and phase `p`, place `i`. Phases 0 and 1 are the two ends of the transfers of partial
    sums (sent, received), phases 2 and 3 those of the transfers of the result. -/
abbrev Kind := Option (Fin 4 × Fin 14)

/-- The array of a phase. -/
abbrev phase : Fin 4 → DmaSems sig S14
  | 0 => cc0_scratch3
  | 1 => cc0_scratch4
  | 2 => cc0_scratch5
  | 3 => cc0_scratch6

def semAt : Kind → SemLoc sig
  | none => .reg barS
  | some (p, i) => .dma (semOf (phase p) i)

/-- Cell `k` of device `c`. -/
abbrev cell (c : Dev nD) (k : Kind) : GSem nD τ sig := ((c : Thread nD τ), semAt k)

/-- Which cell a semaphore is, if it is one of these. -/
def kindOf : SemLoc sig → Option Kind
  | .reg _ => some none
  | .dma n => if n.val < 3 then none else some (some (Fin.ofNat 4 ((n.val - 3) / 14), Fin.ofNat 14 ((n.val - 3) % 14)))

theorem semOf_phase (p : Fin 4) (i : Fin 14) : (semOf (phase p) i).val = 3 + 14 * p.val + i.val := by
  revert p i; decide

theorem kindOf_semAt (k : Kind) : kindOf (semAt k) = some k := by
  match k with
  | none => rfl
  | some (p, i) =>
    have h := semOf_phase p i
    have hp := p.isLt
    have hi := i.isLt
    unfold semAt kindOf
    dsimp only
    rw [if_neg (by omega)]
    congr 3
    · exact Fin.ext (by simp [Fin.ofNat]; omega)
    · exact Fin.ext (by simp [Fin.ofNat]; omega)

theorem semAt_injective : Function.Injective semAt := fun k k' h =>
  Option.some.inj ((kindOf_semAt k).symm.trans ((congrArg kindOf h).trans (kindOf_semAt k')))

theorem cell_injective : Function.Injective (fun ck : Dev nD × Kind => cell ck.1 ck.2) := by
  rintro ⟨c, k⟩ ⟨c', k'⟩ h
  have h1 : c = c' := congrArg (fun g : GSem nD τ sig => g.1.1) h
  have h2 : k = k' := semAt_injective (congrArg Prod.snd h)
  rw [h1, h2]

theorem cell_inj {c c' : Dev nD} {k k' : Kind} (h : cell c k = cell c' k') : c = c' ∧ k = k' := by
  have := @cell_injective (c, k) (c', k') h
  exact ⟨congrArg Prod.fst this, congrArg Prod.snd this⟩

/-- The units a transfer counts. -/
abbrev N : ℕ := (slotM 0).view.dmaCredit
theorem N_pos : 0 < N := View.dmaCredit_pos _ (by decide)

/-! ## The pieces of memory that change hands -/

abbrev slabPts (c : Dev nD) (k : Fin 7) (f : Vec F S7x128x1024 .bf16) : sProp 𝕄 :=
  (((c : Thread nD τ).loc cc0_scratch1) ↦[(slab k).set]{fullShare} f)
abbrev piecePts (c : Dev nD) (i : Fin 14) (f : Vec F S7x128x1024 .bf16) : sProp 𝕄 :=
  (((c : Thread nD τ).loc cc0_scratch1) ↦[(piece i).set]{fullShare} f)
abbrev slotPts (c : Dev nD) (i : Fin 14) (f : Vec F S14x64x1024 .bf16) : sProp 𝕄 :=
  (((c : Thread nD τ).loc cc0_scratch2) ↦[(slot i).set]{fullShare} f)
abbrev partPts (c : Dev nD) (a : Fin 2) (f : Vec F S128x1024 .f32) : sProp 𝕄 :=
  (((c : Thread nD τ).loc cc0_scratch0) ↦[(part a).set]{fullShare} f)
/-- On device `c`, half `a` of the rows of the result that device `d` computes, at share `q`. -/
abbrev rowsPts (c d : Dev nD) (a : Fin 2) (q : PosShare TreeShare) (f : Vec F S1024x1024 .bf16) : sProp 𝕄 :=
  (((c : Thread nD τ).loc cc0_stg2_0) ↦[(shareRows d a).set]{q} f)

/-- Seven shares that make up the whole. -/
abbrev seventh (k : Fin 7) : PosShare TreeShare := Transfers.dealOf fullShare Finset.univ k

/-! ## The schedule -/

/-- With its signal to `c`, peer `k` of `c` hands over half `a` of what `c` will write there. -/
def handed (c p : Dev nD) (j : Fin 14) (a : Fin 2) : sProp 𝕄 :=
  iprop((∃ f, slotPts (F := F) p j f) ∗ (∃ f, rowsPts (F := F) p c a fullShare f))

def payOf (c : Dev nD) : Kind → Fin 7 → sProp 𝕄
  | none, k => bigSep Finset.univ fun a : Fin 2 => handed (F := F) c (peer c k) (back (pair k a)) a
  | some (0, i), _ => piecePts c i (pbfC xs ws c)
  | some (1, i), _ => slotPts c i (rsC xs ws c)
  | some (2, i), _ => rowsPts c c (half i) (seventh (dist i)) (outC xs ws)
  | some (3, i), _ => rowsPts c (peer c (dist i)) (half i) fullShare (outC xs ws)

instance payOf_storable (c : Dev nD) (k : Kind) (d : Fin 7) : BI.Storable (upEmb : UEmb _ 𝕄) (payOf xs ws c k d) := by
  match k with
  | none => unfold payOf handed; infer_instance
  | some (0, i) => unfold payOf; infer_instance
  | some (1, i) => unfold payOf; infer_instance
  | some (2, i) => unfold payOf; infer_instance
  | some (3, i) => unfold payOf; infer_instance

def dutiesOf : Kind → Finset (Fin 7)
  | none => Finset.univ
  | some _ => {0}
def amountOf : Kind → ℕ
  | none => 1
  | some _ => N
/-- What a cell's one wait takes. -/
def expectOf : Kind → ℕ
  | none => 7
  | some _ => N

theorem amountOf_pos (k : Kind) : 0 < amountOf k := by
  match k with
  | none => exact Nat.one_pos
  | some _ => exact N_pos

/-- The schedule of all the cells: one round each. -/
def plan : Rounds.Schedule (GSem nD τ sig) (Fin 7) 𝕄 where
  duties g r := if r = 0 ∧ g.1.2 = .tc then (kindOf g.2).elim ∅ dutiesOf else ∅
  unitless _ := False
  amount g _ _ := (kindOf g.2).elim 1 amountOf
  payload g _ d := (kindOf g.2).elim iprop(emp) fun k => payOf xs ws g.1.1 k d
  amount_pos g _ _ _ := by
    cases h : kindOf g.2 with
    | none => exact Nat.one_pos
    | some k => exact amountOf_pos k

instance plan_storable (g : GSem nD τ sig) (r : ℕ) (d : Fin 7) : BI.Storable (upEmb : UEmb _ 𝕄) ((plan xs ws).payload g r d) := by
  show BI.Storable upEmb ((kindOf g.2).elim iprop(emp) fun k => payOf xs ws g.1.1 k d)
  cases kindOf g.2 with
  | none => exact (inferInstance : BI.Storable (upEmb : UEmb _ 𝕄) iprop(emp))
  | some k => exact payOf_storable xs ws g.1.1 k d

section Tables
variable (c : Dev nD) (k : Kind)

theorem duties_eq : (plan xs ws).duties (cell c k) 0 = dutiesOf k := by
  show (if 0 = 0 ∧ (cell c k).1.2 = .tc then (kindOf (semAt k)).elim ∅ dutiesOf else ∅) = _
  rw [if_pos ⟨rfl, rfl⟩, kindOf_semAt]; rfl
theorem duties_later (g : GSem nD τ sig) (r : ℕ) (h : 1 ≤ r) : (plan xs ws).duties g r = ∅ :=
  if_neg fun h' => by omega
theorem amount_eq (r : ℕ) (d : Fin 7) : (plan xs ws).amount (cell c k) r d = amountOf k := by
  show (kindOf (semAt k)).elim 1 amountOf = _
  rw [kindOf_semAt]; rfl
theorem payload_eq (r : ℕ) (d : Fin 7) : (plan xs ws).payload (cell c k) r d = payOf xs ws c k d := by
  show ((kindOf (semAt k)).elim iprop(emp) fun k => payOf xs ws c k d) = _
  rw [kindOf_semAt]; rfl
theorem expect_eq : (plan xs ws).expect (cell c k) 0 = expectOf k := by
  unfold Schedule.expect Schedule.amountOf
  rw [duties_eq, Finset.sum_congr rfl fun d _ => amount_eq xs ws c k 0 d, Finset.sum_const, smul_eq_mul]
  match k with
  | none => rfl
  | some _ => exact Nat.one_mul N
/-- All that a cell's wait brings. -/
theorem rest_eq : (bigSep ((plan xs ws).duties (cell c k) 0 \ ∅) fun d => (plan xs ws).payload (cell c k) 0 d) = bigSep (dutiesOf k) (payOf xs ws c k) := by
  rw [Finset.sdiff_empty, duties_eq, funext fun d => payload_eq xs ws c k 0 d]

end Tables

/-! ## What is owed, and the order of waiting -/

/-- A device's debts: a signal to each of its mates, and the arrival of every transfer it makes. -/
abbrev owedBar (c : Dev nD) (k : Fin 7) : CellTallies nD τ sig Unit := tallyAt (cell (mate c k) none) () 1
abbrev owedRs (c : Dev nD) (i : Fin 14) : CellTallies nD τ sig Unit := tallyAt (cell (peer c (dist i)) (some (1, back i))) () N
abbrev owedAg (c : Dev nD) (a : Fin 2) (k : Fin 7) : CellTallies nD τ sig Unit := tallyAt (cell (peer c k) (some (3, pair (opp k) a))) () N

def allAg (c : Dev nD) (a : Fin 2) : CellTallies nD τ sig Unit := ∑ k, owedAg c a k
def O₂ (c : Dev nD) : CellTallies nD τ sig Unit := allAg c 1 + allAg c 0
def O₁ (c : Dev nD) : CellTallies nD τ sig Unit := O₂ c + ∑ i, owedRs c i
/-- All the debts of device `c` at the start. -/
def O₀ (c : Dev nD) : CellTallies nD τ sig Unit := O₁ c + ∑ k, owedBar c k

/-- The level of a cell: a device may wait on a cell of lower level than all the cells it owes. -/
def levelOf : Kind → ℕ
  | none => 1
  | some (1, _) => 2
  | some (3, _) => 3
  | some _ => 0

def L (g : GSem nD τ sig) : Finset Unit := if g.1.2 = .tc then {()} else ∅
def lv (g : GSem nD τ sig) (_ : Unit) : ℕ := (kindOf g.2).elim 0 levelOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) (u : Unit) : lv (cell c k) u = levelOf k := by
  show (kindOf (semAt k)).elim 0 levelOf = _
  rw [kindOf_semAt]; rfl

/-- Everything owed in `O` is to cells of a level above `n`. -/
def Above (n : ℕ) (O : CellTallies nD τ sig Unit) : Prop := ∀ g u, 0 < O g u → ∃ d k, g = cell d k ∧ n < levelOf k

theorem above_tally {n : ℕ} {d : Dev nD} {k : Kind} (h : n < levelOf k) (m : ℕ) : Above n (tallyAt (cell d k) () m) := by
  intro g u hg
  rw [tallyAt_apply] at hg
  by_cases e : g = cell d k ∧ u = ()
  · exact ⟨d, k, e.1, h⟩
  · rw [if_neg e] at hg; exact absurd hg (Nat.lt_irrefl 0)
theorem above_zero (n : ℕ) : Above n 0 := fun g u hg => absurd hg (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with e | e
  · exact h' g u (by omega)
  · exact h g u e
theorem above_sum {n : ℕ} {ι : Type} (s : Finset ι) {f : ι → CellTallies nD τ sig Unit} (h : ∀ i, Above n (f i)) : Above n (∑ i ∈ s, f i) :=
  Finset.sum_induction f (Above n) (fun _ _ => above_add) (above_zero n) fun i _ => h i

theorem above_ag (c : Dev nD) (a : Fin 2) : Above 2 (allAg c a) := above_sum _ fun k => above_tally (show 2 < 3 by decide) N
theorem above_O₂ (c : Dev nD) : Above 2 (O₂ c) := above_add (above_ag c 1) (above_ag c 0)
theorem above_mono {n n' : ℕ} (h : n' ≤ n) {O : CellTallies nD τ sig Unit} (hO : Above n O) : Above n' O :=
  fun g u hg => let ⟨d, k, e, l⟩ := hO g u hg; ⟨d, k, e, lt_of_le_of_lt h l⟩
theorem above_O₁ (c : Dev nD) : Above 1 (O₁ c) :=
  above_add (above_mono (by decide) (above_O₂ c)) (above_sum _ fun i => above_tally (show 1 < 2 by decide) N)
theorem above_O₀ (c : Dev nD) : Above 0 (O₀ c) :=
  above_add (above_mono (by decide) (above_O₁ c)) (above_sum _ fun k => above_tally (show 0 < 1 by decide) 1)

/-- A device may wait on a semaphore of a level not above `n` while it owes only what is above. -/
theorem mayWait_of (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, h⟩ := hO g u hg; rw [lv_cell]; exact h)

end Cert.KernelIdeal.Ring
end
-- ==== Proof.Ideal.Loop.lean ====
/-
# Loops

A loop is sound when each of its passes is: a pass takes what is set aside for it, and may use something that goes from
pass to pass. In a loop whose passes pay a debt each, that is the rest of the debts.
-/
module

public import proofs.«01_k».proof.Proof.Ideal.Cells

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` may run `p`, and ends it with `Q`. -/
abbrev runs (c : Dev nD) (p : Code F PUnit) (Q : sProp 𝕄) : sProp 𝕄 :=
  wp frame (wpE (defs₀ (F := F)) 𝒱₀ (c : Thread nD τ) none) Set.univ p (fun _ => Q)

/-- Device `c` owes `O`, whatever it has waited for. -/
def owing (c : Dev nD) (O : CellTallies nD τ sig Unit) : sProp 𝕄 := iprop(∃ W, owes (c : Thread nD τ) O W)

/-- One program after another. -/
theorem runs_then (c : Dev nD) {p : Code F PUnit} {q : Code F PUnit} {A B C : sProp 𝕄} (hp : A ⊢ runs c p B) (hq : B ⊢ runs c q C) :
    A ⊢ runs c (p >>= fun _ => q) C := by
  unfold runs
  rw [wp_bind]
  exact hp.trans (wp_mono _ _ _ fun _ => hq)

/-- A loop, pass by pass. -/
theorem runs_steps (c : Dev nD) (P : sProp 𝕄) [BI.Persistent P] : ∀ (n : ℕ) (f : Fin n → Code F PUnit) (A B : Fin n → sProp 𝕄) (R : ℕ → sProp 𝕄),
    (∀ i, iprop(P ∗ A i ∗ R i.val) ⊢ runs c (f i) iprop(B i ∗ R (i.val + 1))) →
    iprop(P ∗ bigSep Finset.univ A ∗ R 0) ⊢ runs c (steps n f) iprop(bigSep Finset.univ B ∗ R n)
  | 0, f, A, B, R, _ => by
    show _ ⊢ iprop(|={Set.univ}=> (bigSep Finset.univ B ∗ R 0))
    rw [show (Finset.univ : Finset (Fin 0)) = ∅ from rfl, bigSep_empty, bigSep_empty]
    iintro ⟨-, -, HR⟩
    imodintro
    isplitr; · iempintro
    iexact HR
  | n + 1, f, A, B, R, h => by
    have ih := runs_steps c P n (fun i => f i.succ) (fun i => A i.succ) (fun i => B i.succ) (fun i => R (i + 1)) fun i => h i.succ
    have h0 : iprop(P ∗ A 0 ∗ R 0) ⊢ runs c (f 0) iprop(B 0 ∗ R (0 + 1)) := h 0
    rw [bigSep_univ_succ, bigSep_univ_succ]
    show _ ⊢ runs c (f 0 >>= fun _ => steps n fun i => f i.succ) _
    unfold runs at *
    rw [wp_bind]
    iintro ⟨#HP, ⟨HA, HAs⟩, HR⟩
    iapply (wp_wand_r _ _ _ (p := f 0) (Q := fun _ => iprop(B 0 ∗ R (0 + 1))))
    isplitl [HA HR]
    · iapply h0
      isplitr; · iexact HP
      isplitl [HA]; · iexact HA
      iexact HR
    iintro %u ⟨HB, HR⟩
    iapply (wp_wand_r _ _ _ (p := steps n fun i => f i.succ) (Q := fun _ => iprop(bigSep Finset.univ (fun i : Fin n => B i.succ) ∗ R (n + 1))))
    isplitl [HAs HR]
    · iapply ih
      isplitr; · iexact HP
      isplitl [HAs]; · iexact HAs
      iexact HR
    iintro %u' ⟨HBs, HR⟩
    isplitl [HB HBs]
    · isplitl [HB]; · iexact HB
      iexact HBs
    iexact HR

/-- What is left of a family of debts before pass `i`. -/
def due {n : ℕ} (o : Fin n → CellTallies nD τ sig Unit) (i : ℕ) : CellTallies nD τ sig Unit :=
  ∑ j ∈ Finset.univ.filter (fun j : Fin n => i ≤ j.val), o j

theorem due_zero {n : ℕ} (o : Fin n → CellTallies nD τ sig Unit) : due o 0 = ∑ j, o j := by
  unfold due; rw [Finset.filter_true_of_mem fun j _ => Nat.zero_le _]
theorem due_end {n : ℕ} (o : Fin n → CellTallies nD τ sig Unit) : due o n = 0 := by
  unfold due; rw [Finset.filter_false_of_mem fun j _ => by have := j.isLt; omega, Finset.sum_empty]
theorem due_step {n : ℕ} (o : Fin n → CellTallies nD τ sig Unit) (i : Fin n) : due o i.val = due o (i.val + 1) + o i := by
  unfold due
  have h : Finset.univ.filter (fun j : Fin n => i.val ≤ j.val) = insert i (Finset.univ.filter fun j : Fin n => i.val + 1 ≤ j.val) := by
    ext j
    simp only [Finset.mem_filter, Finset.mem_univ, true_and, Finset.mem_insert, Fin.ext_iff]
    omega
  rw [h, Finset.sum_insert (by simp), add_comm]

/-- A loop each of whose passes pays a debt. -/
theorem runs_paying (c : Dev nD) (P : sProp 𝕄) [BI.Persistent P] (n : ℕ) (f : Fin n → Code F PUnit) (A B : Fin n → sProp 𝕄)
    (o : Fin n → CellTallies nD τ sig Unit) (O : CellTallies nD τ sig Unit)
    (h : ∀ i O', iprop(P ∗ A i ∗ owing c (O' + o i)) ⊢ runs c (f i) iprop(B i ∗ owing c O')) :
    iprop(P ∗ bigSep Finset.univ A ∗ owing c (O + ∑ i, o i)) ⊢ runs c (steps n f) iprop(bigSep Finset.univ B ∗ owing c O) := by
  have key := runs_steps c P n f A B (fun i => owing c (O + due o i)) fun i => by
    rw [due_step o i, ← add_assoc]
    exact h i (O + due o (i.val + 1))
  rw [due_zero, due_end, add_zero] at key
  exact key

end Cert.KernelIdeal.Ring
end
-- ==== Proof.Ideal.Passes.lean ====
/-
# Every pass of every loop

One theorem for each step of the body: from what is set aside for the step to what it leaves.
-/
module

public import proofs.«01_k».proof.Proof.Ideal.Loop

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)

/-! ## The devices addressed -/

theorem signalled_eq (d : Dev nD) (k : Fin 7) : signalled d k = mate d k := by
  revert d k; decide +kernel

theorem scattered_eq (d : Dev nD) (i : Fin 14) : scattered d i = peer d (dist i) := by
  revert d i; decide +kernel

theorem gathered_eq (d : Dev nD) (a : Fin 2) (k : Fin 7) : gathered d a k = peer d k := by
  revert d a k; decide +kernel

/-! ## The elements of the operands -/

theorem set_pieceM (i : Fin 14) : (pieceM i).view.set = (piece i).set := by
  show (((View.whole cc0_scratch1).slice (piece i)).reshape S64x1024 _).set = _
  rw [View.set_reshape, View.set_slice_whole]
theorem set_slotM (i : Fin 14) : (slotM i).view.set = (slot i).set := by
  show (((View.whole cc0_scratch2).slice (slot i)).reshape S64x1024 _).set = _
  rw [View.set_reshape, View.set_slice_whole]
theorem set_shareM (d : Dev nD) (a : Fin 2) : (shareM d a).view.set = (shareRows d a).set := by
  show ((View.whole cc0_stg2_0).slice (shareRows d a)).set = _
  rw [View.set_slice_whole]

/-- Every transfer counts the same. -/
theorem amount_slot (i : Fin 14) (s : DmaSem sig) : (slotM i).view.amount (.dma s) = N := rfl
theorem amount_share (d : Dev nD) (a : Fin 2) (s : DmaSem sig) : (shareM d a).view.amount (.dma s) = N := rfl

/-- Writing through a view what it reads of `g` makes its elements those of `g`. -/
theorem write_agrees {κ : Idealize.ShloMosaic.Kind} {sp : Space} {s : Shape} {e : EltTy} (v : View sig κ sp s e) (f g : v.ty.Contents (Elt F))
    {w : s.Idx → Elt F e} (h : v.read (Elt F) g = w) : ∀ i ∈ v.set, v.write (Elt F) f w Finset.univ i = g i := by
  intro i hi
  rw [← h, View.write_read_eq_piecewise]
  exact Finset.piecewise_eq_of_mem _ _ _ hi

/-! ## What every device knows -/

/-- The invariants of all the cells, and that all of them are at their round. -/
def records (K : Dev nD × Kind → ℕ) : sProp 𝕄 :=
  iprop((bigSep Finset.univ fun ck : Dev nD × Kind => cellInv ER (plan xs ws) (K ck) (cell ck.1 ck.2))
    ∗ bigSep Finset.univ fun ck : Dev nD × Kind => reached ER (cell ck.1 ck.2) 0)

instance records_persistent (K : Dev nD × Kind → ℕ) : BI.Persistent (records xs ws K) := by unfold records; infer_instance

theorem records_inv (K : Dev nD × Kind → ℕ) (c : Dev nD) (k : Kind) : records xs ws K ⊢ cellInv ER (plan xs ws) (K (c, k)) (cell c k) := by
  have h : (bigSep Finset.univ fun ck : Dev nD × Kind => (cellInv ER (plan xs ws) (K ck) (cell ck.1 ck.2) : sProp 𝕄)) ⊢ cellInv ER (plan xs ws) (K (c, k)) (cell c k) :=
    bigSep_elim (Finset.mem_univ (c, k))
  unfold records
  iintro ⟨#HI, -⟩
  iapply h; iexact HI
theorem records_reached (K : Dev nD × Kind → ℕ) (c : Dev nD) (k : Kind) : records xs ws K ⊢ reached ER (cell c k) 0 := by
  have h : (bigSep Finset.univ fun ck : Dev nD × Kind => (reached ER (cell ck.1 ck.2) 0 : sProp 𝕄)) ⊢ reached ER (cell c k) 0 :=
    bigSep_elim (Finset.mem_univ (c, k))
  unfold records
  iintro ⟨-, #HR⟩
  iapply h; iexact HR

variable (K : Dev nD × Kind → ℕ) (c : Dev nD)

/-! ## Signals -/

/-- A signal to a mate hands over what the mate is going to write here. -/
theorem runs_signal (k : Fin 7) (O : CellTallies nD τ sig Unit) :
    iprop(records xs ws K ∗ (dutyTok ER (cell (mate c k) none) 0 (seen c k) ∗ payOf xs ws (mate c k) none (seen c k)) ∗ owing c (O + owedBar c k))
      ⊢ runs c (signalStep c k) iprop(emp ∗ owing c O) := by
  unfold signalStep runs owing semSignalWord
  rw [signalled_eq]
  have hpay : payOf xs ws (mate c k) none (seen c k) ⊢ (plan xs ws).payload ((mate c k : Thread nD τ), .reg barS) 0 (seen c k) :=
    Entails.of_eq (payload_eq xs ws (mate c k) none 0 (seen c k)).symm
  iintro ⟨#HP, ⟨HT, HY⟩, ⟨%W, HO⟩⟩
  iapply (Rounds.wp_signal 𝒱₀ ER (plan xs ws) (c : Thread nD τ) none (dst := (mate c k : Thread nD τ)) (κ := K (mate c k, none))
      (d := seen c k) (by show _ ∈ (plan xs ws).duties (cell (mate c k) none) 0; rw [duties_eq]; exact Finset.mem_univ _)
      ((amount_eq xs ws (mate c k) none 0 (seen c k)).trans (by decide)) () O rfl) $$ [HO HT HY]
  · isplitr; · iapply (records_inv xs ws K (mate c k) none); iexact HP
    isplitl [HO]; · iexact HO
    isplitl [HT]; · iexact HT
    isplitl [HY]; · iapply hpay; iexact HY
    iapply (records_reached xs ws K (mate c k) none); iexact HP
  iintro HO
  rw [wp_ret]
  imodintro
  isplitr; · iempintro
  iexists W; iexact HO

/-! ## Waits -/

/-- Any wait on one of this device's cells: the credit for it is spent and all that comes with the cell's round is had. -/
theorem runs_wait (k : Kind) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semAt k) (expectOf k) Q)
    {O : CellTallies nD τ sig Unit} {n : ℕ} (hn : levelOf k ≤ n) (hO : Above n O) :
    iprop((records xs ws K ∗ levAts L lv) ∗ (cred (tallyAt (cell c k) () (expectOf k)) ∗ atPos ER (cell c k) 0 ∅ 0) ∗ owing c O)
      ⊢ runs c (Prog.lift w) iprop((bigSep (dutiesOf k) (payOf xs ws c k) ∗ atPos ER (cell c k) 1 ∅ 0) ∗ owing c O) := by
  unfold runs owing
  simp only [Prog.lift]
  iintro ⟨⟨#HP, #HL⟩, ⟨HC, HA⟩, ⟨%W, HO⟩⟩
  iapply (Rounds.wp_wait_rest_token 𝒱₀ ER (plan xs ws) (c : Thread nD τ) none (κ := K (c, k)) hw (Set.mem_univ _) () (O := O) (W := W) (R := 0) (m := 0) (T := ∅)
      ((Nat.zero_add _).trans (expect_eq xs ws c k).symm)) $$ [HC HA HO]
  · isplitr; · iapply (records_inv xs ws K c k); iexact HP
    isplitl [HC]; · iexact HC
    isplitl [HO]; · iexact HO
    isplitr; · iapply (mayWait_of c (semAt k) (by rw [lv_cell]; exact hn) hO); iexact HL
    iexact HA
  iintro ⟨HO, HA, -, HY⟩
  ihave HY' := (Entails.of_eq (rest_eq xs ws c k)) $$ HY
  rw [wp_ret]
  imodintro
  isplitl [HY' HA]
  · isplitl [HY']; · iexact HY'
    iexact HA
  iexists _; iexact HO

/-! ## Products -/

/-- The two arguments' blocks, which the body only reads. -/
abbrev xPts (c : Dev nD) (f : Vec F S1024x128 .bf16) : sProp 𝕄 := (((c : Thread nD τ).loc cc0_stg0_0) ↦{fullShare} f)
abbrev wPts (c : Dev nD) (f : Vec F S128x1024 .bf16) : sProp 𝕄 := (((c : Thread nD τ).loc cc0_stg1_0) ↦{fullShare} f)
/-- The running sum's buffer, whole. -/
abbrev redPts (c : Dev nD) (f : Vec F S128x1024 .f32) : sProp 𝕄 := (((c : Thread nD τ).loc cc0_scratch0) ↦{fullShare} f)

/-- A product fills its slab with what the slab is to hold. -/
theorem runs_product (k : Fin 7) :
    iprop(emp ∗ (∃ f, slabPts (F := F) c k f) ∗ xPts c (xs c)) ⊢ runs c (productStep c (wAt ws c) k) iprop(slabPts c k (pbfC xs ws c) ∗ xPts c (xs c)) := by
  unfold productStep runs
  simp only [Prog.lift, Prog.bind_op, Prog.bind_ret]
  iintro ⟨-, ⟨%f, HB⟩, HX⟩
  iapply (wp_load_rect 𝒱₀ (c : Thread nD τ) none Set.univ (m := xM) (r := sendRows c k) (Finset.subset_univ _)) $$ HX
  iintro HX
  have hset : (pbfM.access (slab k)).set = (slab k).set := View.set_slice_whole _ _
  iapply (wp_load_rect 𝒱₀ (c : Thread nD τ) none Set.univ (m := pbfM) (r := slab k) (subset_of_eq hset)) $$ HB
  iintro HB
  iapply (wp_store 𝒱₀ (c : Thread nD τ) none Set.univ (m := pbfM) (r := slab k) (Mk := Finset.univ) (subset_of_eq hset)) $$ HB
  iintro HB
  have hw : ((((c : Thread nD τ).loc cc0_scratch1) ↦[(slab k).set]{fullShare}
        (pbfM.access (slab k)).write (Elt F) f (k0_pay2 (wAt ws c) ((xM.access (sendRows c k)).read (Elt F) (xs c))) Finset.univ) : sProp 𝕄)
      = slabPts c k (pbfC xs ws c) :=
    pointsTo_congr fun j hj => write_agrees (pbfM.access (slab k)) f (pbfC xs ws c) (read_slab xs ws c k) j (by rw [hset]; exact hj)
  ihave HB' := (Entails.of_eq hw) $$ HB
  rw [wp_ret]
  imodintro
  isplitl [HB']; · iexact HB'
  iexact HX

/-- The product of a device's own rows fills the running sum's buffer. -/
theorem runs_own :
    iprop((∃ f, redPts (F := F) c f) ∗ xPts c (xs c)) ⊢ runs c (ownStep c (wAt ws c)) iprop(redPts c (ownC xs ws c) ∗ xPts c (xs c)) := by
  unfold ownStep runs
  simp only [Prog.lift, Prog.bind_op, Prog.bind_ret]
  iintro ⟨⟨%f, HB⟩, HX⟩
  iapply (wp_load_rect 𝒱₀ (c : Thread nD τ) none Set.univ (m := xM) (r := ownRows c) (Finset.subset_univ _)) $$ HX
  iintro HX
  iapply (wp_load_rect 𝒱₀ (c : Thread nD τ) none Set.univ (m := redM) (r := allW) (Finset.subset_univ _)) $$ HB
  iintro HB
  iapply (wp_store 𝒱₀ (c : Thread nD τ) none Set.univ (m := redM) (r := allW) (Mk := Finset.univ) (Finset.subset_univ _)) $$ HB
  iintro HB
  have hw : (redM.access allW).write (Elt F) f (k0_pay11 (k0_pay1 (wAt ws c)) ((xM.access (ownRows c)).read (Elt F) (xs c))) Finset.univ = ownC xs ws c :=
    Memref.write_access_unit_zero_univ (Elt F) cc0_scratch0 (funext fun a => by fin_cases a <;> rfl) _ _ _
  rw [hw, wp_ret]
  imodintro
  isplitl [HB]; · iexact HB
  iexact HX

/-! ## Transfers -/

/-- A transfer of a half block to device `n`: the source goes with the sender's cell, the destination, holding what was
    sent, with the receiver's. -/
theorem runs_send {src dst : Memref sig .tc .vmem S64x1024 .bf16} (n : Dev nD) {p₁ p₂ : Fin 4} {i₁ i₂ : Fin 14}
    {hsc : dst.view.ref.isScScratch = false} {hsrc : src.view.WordExact} {hdst : dst.view.WordExact}
    {hsem : DmaTarget.Typed .vmem (.dma (semOf (phase p₂) i₂)) (.remote (Dev.tc n : Thread nD τ) dst (.dma (semOf (phase p₁) i₁)) hsc)}
    (hN : dst.view.amount (.dma (semOf (phase p₂) i₂)) = N)
    {q : PosShare TreeShare} {fs : Buf (Elt F) (src.view.loc (c : Thread nD τ))} {fd : Buf (Elt F) (dst.view.loc (n : Thread nD τ))}
    (h₁ : ((src.view.loc (c : Thread nD τ) ↦[src.view.set]{q} fs) : sProp 𝕄) ⊢ payOf xs ws c (some (p₁, i₁)) 0)
    (h₂ : ((dst.view.loc (n : Thread nD τ) ↦[dst.view.set]{fullShare} dst.view.write (Elt F) fd (src.view.read (Elt F) fs) Finset.univ) : sProp 𝕄)
      ⊢ payOf xs ws n (some (p₂, i₂)) 0) (O : CellTallies nD τ sig Unit) :
    iprop(records xs ws K ∗ ((src.view.loc (c : Thread nD τ) ↦[src.view.set]{q} fs) ∗ (dst.view.loc (n : Thread nD τ) ↦[dst.view.set]{fullShare} fd)
        ∗ dutyTok ER (cell c (some (p₁, i₁))) 0 0 ∗ dutyTok ER (cell n (some (p₂, i₂))) 0 0) ∗ owing c (O + tallyAt (cell n (some (p₂, i₂))) () N))
      ⊢ runs c (Prog.lift (.enqueueDma src (.remote (Dev.tc n : Thread nD τ) dst (.dma (semOf (phase p₁) i₁)) hsc) (.dma (semOf (phase p₂) i₂)) hsrc hdst hsem))
          iprop(cred (tallyAt (cell c (some (p₁, i₁))) () N) ∗ owing c O) := by
  unfold runs owing
  simp only [Prog.lift]
  iintro ⟨#HP, ⟨HS, HD, HT₁, HT₂⟩, ⟨%W, HO⟩⟩
  iapply (Rounds.wp_send_pointsTo 𝒱₀ ER (plan xs ws) (c : Thread nD τ) none (κ₁ := K (c, some (p₁, i₁))) (κ₂ := K (n, some (p₂, i₂)))
    (r₁ := 0) (r₂ := 0) (d₁ := 0) (d₂ := 0) (fd := fd) (W := W)
    (by show _ ∈ (plan xs ws).duties (cell c (some (p₁, i₁))) 0; rw [duties_eq]; exact Finset.mem_singleton_self _)
    (by show _ ∈ (plan xs ws).duties (cell n (some (p₂, i₂))) 0; rw [duties_eq]; exact Finset.mem_singleton_self _)
    () () N hN (amount_eq xs ws c (some (p₁, i₁)) 0 0) (amount_eq xs ws n (some (p₂, i₂)) 0 0) O rfl
    (h₁.trans (Entails.of_eq (payload_eq xs ws c (some (p₁, i₁)) 0 0).symm))
    (h₂.trans (Entails.of_eq (payload_eq xs ws n (some (p₂, i₂)) 0 0).symm))) $$ [HS HD HO HT₁ HT₂]
  · isplitr; · iapply (records_inv xs ws K c (some (p₁, i₁))); iexact HP
    isplitr; · iapply (records_inv xs ws K n (some (p₂, i₂))); iexact HP
    isplitl [HS]; · iexact HS
    isplitl [HD]; · iexact HD
    isplitl [HO]; · iexact HO
    isplitl [HT₁]; · iexact HT₁
    isplitr; · iapply (records_reached xs ws K c (some (p₁, i₁))); iexact HP
    isplitl [HT₂]; · iexact HT₂
    iapply (records_reached xs ws K n (some (p₂, i₂))); iexact HP
  iintro ⟨HC, HO⟩
  rw [wp_ret]
  imodintro
  isplitl [HC]; · iexact HC
  iexists W; iexact HO

/-- A transfer of partial sums takes a piece of this device's products and a slot of the peer's, and leaves credit for its end. -/
theorem runs_scatter (i : Fin 14) (O : CellTallies nD τ sig Unit) :
    iprop(records xs ws K ∗ (piecePts c i (pbfC xs ws c) ∗ (∃ f, slotPts (F := F) (peer c (dist i)) (back i) f)
        ∗ dutyTok ER (cell c (some (0, i))) 0 0 ∗ dutyTok ER (cell (peer c (dist i)) (some (1, back i))) 0 0) ∗ owing c (O + owedRs c i))
      ⊢ runs c (scatterStep c i) iprop(cred (tallyAt (cell c (some (0, i))) () N) ∗ owing c O) := by
  unfold scatterStep
  rw [scattered_eq]
  have e₁ : ((((c : Thread nD τ).loc cc0_scratch1) ↦[(piece i).set]{fullShare} pbfC xs ws c) : sProp 𝕄)
      = (((c : Thread nD τ).loc cc0_scratch1) ↦[(pieceM i).view.set]{fullShare} pbfC xs ws c) := by rw [set_pieceM]
  have e₂ (f : Vec F S14x64x1024 .bf16) : (((((peer c (dist i) : Dev nD) : Thread nD τ).loc cc0_scratch2) ↦[(slot (back i)).set]{fullShare} f) : sProp 𝕄)
      = ((((peer c (dist i) : Dev nD) : Thread nD τ).loc cc0_scratch2) ↦[(slotM (back i)).view.set]{fullShare} f) := by rw [set_slotM]
  iintro ⟨HP, ⟨HS, ⟨%f, HD⟩, HT⟩, HO⟩
  have hw := write_agrees (slotM (back i)).view f (rsC xs ws (peer c (dist i))) (read_sent xs ws c i)
  have key := runs_send xs ws K c (src := pieceM i) (dst := slotM (back i)) (peer c (dist i)) (p₁ := 0) (p₂ := 1) (i₁ := i) (i₂ := back i)
    (hsc := rfl) (hsrc := pieceExact i) (hdst := slotExact (back i)) (hsem := ⟨⟨rfl, Or.inl rfl⟩, trivial⟩) (amount_slot _ _)
    (q := fullShare) (fs := pbfC xs ws c) (fd := f) (Entails.of_eq e₁.symm)
    (Entails.of_eq ((pointsTo_congr hw).trans (e₂ (rsC xs ws (peer c (dist i)))).symm)) O
  ihave HS' := (Entails.of_eq e₁) $$ HS
  ihave HD' := (Entails.of_eq (e₂ f)) $$ HD
  iapply key
  isplitl [HP]; · iexact HP
  isplitl [HS' HD' HT]
  · isplitl [HS']; · iexact HS'
    isplitl [HD']; · iexact HD'
    iexact HT
  iexact HO

/-- A transfer of the result takes a seventh of this device's half block and the peer's place for it. -/
theorem runs_gather (a : Fin 2) (k : Fin 7) (O : CellTallies nD τ sig Unit) :
    iprop(records xs ws K ∗ (rowsPts c c a (seventh k) (outC xs ws) ∗ (∃ f, rowsPts (F := F) (peer c k) c a fullShare f)
        ∗ dutyTok ER (cell c (some (2, pair k a))) 0 0 ∗ dutyTok ER (cell (peer c k) (some (3, pair (opp k) a))) 0 0) ∗ owing c (O + owedAg c a k))
      ⊢ runs c (gatherStep c a k) iprop(cred (tallyAt (cell c (some (2, pair k a))) () N) ∗ owing c O) := by
  unfold gatherStep
  rw [gathered_eq]
  have e (d : Dev nD) (q : PosShare TreeShare) (f : Vec F S1024x1024 .bf16) : ((((d : Thread nD τ).loc cc0_stg2_0) ↦[(shareRows c a).set]{q} f) : sProp 𝕄)
      = (((d : Thread nD τ).loc cc0_stg2_0) ↦[(shareM c a).view.set]{q} f) := by rw [set_shareM]
  have p₁ : payOf xs ws c (some (2, pair k a)) 0 = rowsPts c c a (seventh k) (outC xs ws) := by
    show rowsPts c c (half (pair k a)) (seventh (dist (pair k a))) (outC xs ws) = _
    rw [half_pair, dist_pair]
  have p₂ : payOf xs ws (peer c k) (some (3, pair (opp k) a)) 0 = rowsPts (peer c k) c a fullShare (outC xs ws) := by
    show rowsPts (peer c k) (peer (peer c k) (dist (pair (opp k) a))) (half (pair (opp k) a)) fullShare (outC xs ws) = _
    rw [half_pair, dist_pair, peer_opp]
  iintro ⟨HP, ⟨HS, ⟨%f, HD⟩, HT⟩, HO⟩
  have hw := write_agrees (shareM c a).view f (outC xs ws) rfl
  have key := runs_send xs ws K c (src := shareM c a) (dst := shareM c a) (peer c k) (p₁ := 2) (p₂ := 3) (i₁ := pair k a) (i₂ := pair (opp k) a)
    (hsc := rfl) (hsrc := shareExact c a) (hdst := shareExact c a) (hsem := ⟨⟨rfl, Or.inl rfl⟩, trivial⟩) (amount_share _ _ _)
    (q := seventh k) (fs := outC xs ws) (fd := f) (Entails.of_eq ((e c _ _).symm.trans p₁.symm))
    (Entails.of_eq ((pointsTo_congr hw).trans ((e (peer c k) _ _).symm.trans p₂.symm))) O
  ihave HS' := (Entails.of_eq (e c (seventh k) (outC xs ws))) $$ HS
  ihave HD' := (Entails.of_eq (e (peer c k) fullShare f)) $$ HD
  iapply key
  isplitl [HP]; · iexact HP
  isplitl [HS' HD' HT]
  · isplitl [HS']; · iexact HS'
    isplitl [HD']; · iexact HD'
    iexact HT
  iexact HO

/-! ## Additions and the activation -/

/-- An addition: the partial sums of peer `k` have arrived and are added to the first `k` peers'. -/
theorem runs_add (a : Fin 2) (k : Fin 7) {O : CellTallies nD τ sig Unit} (hO : Above 2 O) :
    iprop((records xs ws K ∗ levAts L lv) ∗ (cred (tallyAt (cell c (some (1, pair k a))) () N) ∗ atPos ER (cell c (some (1, pair k a))) 0 ∅ 0)
        ∗ partPts c a (redC xs ws c a k.val) ∗ owing c O)
      ⊢ runs c (addStep a k) iprop((slotPts c (pair k a) (rsC xs ws c) ∗ atPos ER (cell c (some (1, pair k a))) 1 ∅ 0)
        ∗ partPts c a (redC xs ws c a (k.val + 1)) ∗ owing c O) := by
  have hwait := runs_wait xs ws K c (some (1, pair k a)) (w := .waitDma2 (semOf cc0_scratch4 (pair k a)) (slotM (pair k a)) (slotM (pair k a)) (slotExact (pair k a)) (slotExact (pair k a)))
    (fun Q => wpE_waitDma2_eq 𝒱₀ (c : Thread nD τ) none Set.univ Q) (n := 2) (le_refl 2) hO
  unfold runs at hwait
  unfold addStep runs
  rw [wp_bind]
  iintro ⟨HP, HC, HR, HO⟩
  iapply (wp_wand_r _ _ _ (Q := fun _ => iprop((bigSep (dutiesOf (some (1, pair k a))) (payOf xs ws c (some (1, pair k a))) ∗ atPos ER (cell c (some (1, pair k a))) 1 ∅ 0) ∗ owing c O)))
  isplitl [HP HC HO]
  · iapply hwait
    isplitl [HP]; · iexact HP
    isplitl [HC]; · iexact HC
    iexact HO
  iintro %u ⟨⟨HS, HA⟩, HO⟩
  have hs : bigSep (dutiesOf (some (1, pair k a))) (payOf xs ws c (some (1, pair k a))) = slotPts c (pair k a) (rsC xs ws c) :=
    bigSep_singleton
  ihave HS' := (Entails.of_eq hs) $$ HS
  simp only [Prog.lift, Prog.bind_op, Prog.bind_ret]
  have hr : (redM.access (part a)).set = (part a).set := View.set_slice_whole _ _
  have hl : (rsM.access (slot (pair k a))).set = (slot (pair k a)).set := View.set_slice_whole _ _
  iapply (wp_load_rect 𝒱₀ (c : Thread nD τ) none Set.univ (m := redM) (r := part a) (subset_of_eq hr)) $$ HR
  iintro HR
  iapply (wp_load_rect 𝒱₀ (c : Thread nD τ) none Set.univ (m := rsM) (r := slot (pair k a)) (subset_of_eq hl)) $$ HS'
  iintro HS'
  iapply (wp_load_rect 𝒱₀ (c : Thread nD τ) none Set.univ (m := redM) (r := part a) (subset_of_eq hr)) $$ HR
  iintro HR
  iapply (wp_store 𝒱₀ (c : Thread nD τ) none Set.univ (m := redM) (r := part a) (Mk := Finset.univ) (subset_of_eq hr)) $$ HR
  iintro HR
  have hw : ((((c : Thread nD τ).loc cc0_scratch0) ↦[(part a).set]{fullShare}
        (redM.access (part a)).write (Elt F) (redC xs ws c a k.val) (k0_pay12 ((redM.access (part a)).read (Elt F) (redC xs ws c a k.val))
          ((rsM.access (slot (pair k a))).read (Elt F) (rsC xs ws c))) Finset.univ) : sProp 𝕄)
      = partPts c a (redC xs ws c a (k.val + 1)) := by
    refine pointsTo_congr fun j hj => write_agrees (redM.access (part a)) _ (redC xs ws c a (k.val + 1)) ?_ j (by rw [hr]; exact hj)
    rw [read_part, read_part]
    show k0_pay12 (sumAt xs ws c a k.val) (rsAt xs ws c (pair (Fin.ofNat 7 k.val) a)) = _
    rw [show Fin.ofNat 7 k.val = k from Fin.ext (Nat.mod_eq_of_lt k.isLt)]
    rfl
  ihave HR' := (Entails.of_eq hw) $$ HR
  rw [wp_ret]
  imodintro
  isplitl [HS' HA]
  · isplitl [HS']; · iexact HS'
    iexact HA
  isplitl [HR']; · iexact HR'
  iexact HO

/-- The activation of the full sum of half `a` goes into this device's rows of the result. -/
theorem runs_act (a : Fin 2) :
    iprop(partPts c a (redC xs ws c a 7) ∗ (∃ f, rowsPts (F := F) c c a fullShare f))
      ⊢ runs c (actStep c a) iprop(partPts c a (redC xs ws c a 7) ∗ rowsPts c c a fullShare (outC xs ws)) := by
  unfold actStep runs
  simp only [Prog.lift, Prog.bind_op, Prog.bind_ret]
  have hr : (redM.access (part a)).set = (part a).set := View.set_slice_whole _ _
  have ho : (outM.access (storeRows c a)).set = (shareRows c a).set := (View.set_slice_whole _ _).trans (congrArg (fun r : Rect S1024x1024 => r.set) (storeRows_shareRows c a))
  iintro ⟨HR, ⟨%f, HB⟩⟩
  iapply (wp_load_rect 𝒱₀ (c : Thread nD τ) none Set.univ (m := redM) (r := part a) (subset_of_eq hr)) $$ HR
  iintro HR
  iapply (wp_load_rect 𝒱₀ (c : Thread nD τ) none Set.univ (m := outM) (r := storeRows c a) (subset_of_eq ho)) $$ HB
  iintro HB
  iapply (wp_store 𝒱₀ (c : Thread nD τ) none Set.univ (m := outM) (r := storeRows c a) (Mk := Finset.univ) (subset_of_eq ho)) $$ HB
  iintro HB
  have hw : ((((c : Thread nD τ).loc cc0_stg2_0) ↦[(shareRows c a).set]{fullShare}
        (outM.access (storeRows c a)).write (Elt F) f (k0_pay19 ((redM.access (part a)).read (Elt F) (redC xs ws c a 7))) Finset.univ) : sProp 𝕄)
      = rowsPts c c a fullShare (outC xs ws) := by
    refine pointsTo_congr fun j hj => write_agrees (outM.access (storeRows c a)) f (outC xs ws) ?_ j (by rw [ho]; exact hj)
    rw [read_part]
    exact read_store xs ws c a
  ihave HB' := (Entails.of_eq hw) $$ HB
  rw [wp_ret]
  imodintro
  isplitl [HR]; · iexact HR
  iexact HB'

end Cert.KernelIdeal.Ring
end
-- ==== Proof.Ideal.Deal.lean ====
/-
# How the buffers are dealt out and put together

The products' buffer is seven slabs and also fourteen pieces, the received sums' fourteen slots, the running sum's two
halves, the result's sixteen half blocks. What is handed over with the signals, and what the barrier brings, are these
pieces rearranged.
-/
module

public import proofs.«01_k».proof.Proof.Ideal.Passes

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)

/-! ## Families -/

/-- A family over the fourteen transfers is one over the peers for each half. -/
theorem pairs_eq (Φ : Fin 14 → sProp 𝕄) :
    bigSep Finset.univ Φ = iprop((bigSep Finset.univ fun k => Φ (pair k 0)) ∗ (bigSep Finset.univ fun k => Φ (pair k 1))) := by
  rw [bigSep_univ_equiv pairEquiv Φ, bigSep_univ_prod, ← bigSep_sep']
  exact bigSep_congr fun k _ => bigSep_univ_two fun a => Φ (pair k a)

theorem insert_peers : ∀ c : Fin 8, (Finset.univ : Finset (Fin 8)) = insert c (Finset.univ.image (peer c)) := by decide
theorem insert_mates : ∀ c : Fin 8, (Finset.univ : Finset (Fin 8)) = insert c (Finset.univ.image (mate c)) := by decide
theorem notMem_peers : ∀ c : Fin 8, c ∉ Finset.univ.image (peer c) := by decide
theorem notMem_mates : ∀ c : Fin 8, c ∉ Finset.univ.image (mate c) := by decide
theorem peers_injective : ∀ c : Fin 8, Function.Injective (peer c) := by decide
theorem mates_injective : ∀ c : Fin 8, Function.Injective (mate c) := by decide

/-- A family over the devices is one device's member and its seven peers', or its seven mates'. -/
theorem peers_eq (c : Dev nD) (Φ : Dev nD → sProp 𝕄) : bigSep Finset.univ Φ = iprop(Φ c ∗ bigSep Finset.univ fun k => Φ (peer c k)) := by
  refine (congrArg (fun s => bigSep s Φ) (insert_peers c)).trans ?_
  rw [bigSep_insert (notMem_peers c), bigSep_image_of_injOn (peers_injective c).injOn]; rfl
theorem mates_eq (c : Dev nD) (Φ : Dev nD → sProp 𝕄) : bigSep Finset.univ Φ = iprop(Φ c ∗ bigSep Finset.univ fun k => Φ (mate c k)) := by
  refine (congrArg (fun s => bigSep s Φ) (insert_mates c)).trans ?_
  rw [bigSep_insert (notMem_mates c), bigSep_image_of_injOn (mates_injective c).injOn]; rfl

/-- A family over the cells of a device is the barrier's member and the four phases'. -/
theorem kinds_eq (Φ : Kind → sProp 𝕄) :
    bigSep Finset.univ Φ = iprop(Φ none ∗ (bigSep Finset.univ fun i => Φ (some (0, i))) ∗ (bigSep Finset.univ fun i => Φ (some (1, i)))
      ∗ (bigSep Finset.univ fun i => Φ (some (2, i))) ∗ (bigSep Finset.univ fun i => Φ (some (3, i)))) := by
  have h : (Finset.univ : Finset Kind) = insert none (Finset.univ.map Function.Embedding.some) := by decide
  have hn : (none : Kind) ∉ Finset.univ.map (Function.Embedding.some (α := Fin 4 × Fin 14)) := by decide
  rw [h, bigSep_insert hn, bigSep_map, bigSep_univ_prod,
    bigSep_univ_eq_bigSepL [0, 1, 2, 3] (by decide) (by decide) (fun p : Fin 4 => bigSep Finset.univ fun i => Φ (Function.Embedding.some (p, i)))]
  rfl

/-- The slots that the seven mates are to write here. -/
def slotFor (c : Fin 8) (x : Fin 7 × Fin 2) : Fin 14 := back (pair (seen c x.1) x.2)
theorem slotFor_injective : ∀ c : Fin 8, Function.Injective (slotFor c) := by decide
def slotEquiv (c : Dev nD) : Fin 7 × Fin 2 ≃ Fin 14 :=
  Equiv.ofBijective (slotFor c) ((Fintype.bijective_iff_injective_and_card _).mpr ⟨slotFor_injective c, rfl⟩)

/-! ## Buffers -/

/-- A buffer whose elements are told apart by a key is its pieces, one for each key. -/
theorem whole_eq {ℓ : Loc nD τ sig} {T : Type} [Fintype T] (key : Idx ℓ → T) (P : T → Finset (Idx ℓ)) (hP : ∀ t i, i ∈ P t ↔ key i = t)
    (q : PosShare TreeShare) (f : Buf (Elt F) ℓ) : ((ℓ ↦{q} f) : sProp 𝕄) = bigSep Finset.univ fun t => ℓ ↦[P t]{q} f := by
  classical
  rw [← pointsTo_biUnion Finset.univ P fun t _ t' _ h => Finset.disjoint_left.mpr fun i hi hi' => h (((hP t i).mp hi).symm.trans ((hP t' i).mp hi'))]
  congr 1
  exact (Finset.eq_univ_of_forall fun i => Finset.mem_biUnion.mpr ⟨key i, Finset.mem_univ _, (hP _ i).mpr rfl⟩).symm

variable (c : Dev nD)

abbrev pbfPts (f : Vec F S7x128x1024 .bf16) : sProp 𝕄 := (((c : Thread nD τ).loc cc0_scratch1) ↦{fullShare} f)
abbrev rsPts (f : Vec F S14x64x1024 .bf16) : sProp 𝕄 := (((c : Thread nD τ).loc cc0_scratch2) ↦{fullShare} f)
abbrev outPts (f : Vec F S1024x1024 .bf16) : sProp 𝕄 := (((c : Thread nD τ).loc cc0_stg2_0) ↦{fullShare} f)

theorem slabs_eq (f : Vec F S7x128x1024 .bf16) : pbfPts c f = bigSep Finset.univ fun k => slabPts c k f :=
  whole_eq (ℓ := (c : Thread nD τ).loc cc0_scratch1) slabOf (fun k => (slab k).set) mem_slab fullShare f
theorem pieces_eq (f : Vec F S7x128x1024 .bf16) : pbfPts c f = bigSep Finset.univ fun i => piecePts c i f :=
  whole_eq (ℓ := (c : Thread nD τ).loc cc0_scratch1) pieceOf (fun k => (piece k).set) mem_piece fullShare f
theorem slots_eq (f : Vec F S14x64x1024 .bf16) : rsPts c f = bigSep Finset.univ fun i => slotPts c i f :=
  whole_eq (ℓ := (c : Thread nD τ).loc cc0_scratch2) slotOf (fun k => (slot k).set) mem_slot fullShare f
theorem parts_eq (f : Vec F S128x1024 .f32) : redPts c f = iprop(partPts c 0 f ∗ partPts c 1 f) :=
  (whole_eq (ℓ := (c : Thread nD τ).loc cc0_scratch0) partOf (fun k => (part k).set) mem_part fullShare f).trans (bigSep_univ_two _)
theorem rows_eq (f : Vec F S1024x1024 .bf16) :
    outPts c f = bigSep Finset.univ fun d : Dev nD => bigSep Finset.univ fun a => rowsPts c d a fullShare f :=
  (whole_eq (ℓ := (c : Thread nD τ).loc cc0_stg2_0) shareOf (fun da : Dev nD × Fin 2 => (shareRows da.1 da.2).set) (fun da j => mem_share da.1 da.2 j) fullShare f).trans
    (bigSep_univ_prod _)

/-- A half block held whole is held in seven shares. -/
theorem sevenths_eq (a : Fin 2) (f : Vec F S1024x1024 .bf16) : rowsPts c c a fullShare f = bigSep Finset.univ fun k => rowsPts c c a (seventh k) f :=
  Transfers.pointsTo_deal Finset.univ ⟨0, Finset.mem_univ _⟩ fullShare

/-- Both halves of the running sum make a buffer again. -/
theorem parts_join : iprop(partPts c 0 (redC xs ws c 0 7) ∗ partPts c 1 (redC xs ws c 1 7)) ⊢ iprop(∃ f, redPts c f) := by
  have h (a : Fin 2) : partPts c a (redC xs ws c a 7) = partPts c a (fun j => redC xs ws c (partOf j) 7 j) :=
    pointsTo_congr fun j hj => by rw [(mem_part a j).mp hj]
  rw [h 0, h 1, ← parts_eq]
  iintro H
  iexists _; iexact H

/-! ## What changes hands at the barrier -/

/-- What goes with the signals: all the slots, and the half blocks of all the mates. -/
theorem give (f : Vec F S14x64x1024 .bf16) (g : Vec F S1024x1024 .bf16) :
    iprop(rsPts c f ∗ bigSep Finset.univ fun k => bigSep Finset.univ fun a => rowsPts c (mate c k) a fullShare g)
      ⊢ bigSep Finset.univ fun k => payOf xs ws (mate c k) none (seen c k) := by
  rw [slots_eq, bigSep_univ_equiv (slotEquiv c) fun i => (slotPts c i f : sProp 𝕄), bigSep_univ_prod, ← bigSep_sep']
  refine bigSep_mono fun k _ => ?_
  rw [← bigSep_sep']
  refine bigSep_mono fun a _ => ?_
  show iprop(slotPts c (back (pair (seen c k) a)) f ∗ rowsPts c (mate c k) a fullShare g)
    ⊢ handed (F := F) (mate c k) (peer (mate c k) (seen c k)) (back (pair (seen c k) a)) a
  rw [peer_mate]
  unfold handed
  iintro ⟨H, H'⟩
  isplitl [H]
  · iexists f; iexact H
  iexists g; iexact H'

/-- What comes with the barrier: a slot for every transfer of partial sums, and a place for either half at every peer. -/
theorem take :
    bigSep (dutiesOf none) (payOf xs ws c none)
      ⊢ iprop((bigSep Finset.univ fun i => iprop(∃ f, slotPts (F := F) (peer c (dist i)) (back i) f))
        ∗ (bigSep Finset.univ fun k => iprop(∃ f, rowsPts (F := F) (peer c k) c 0 fullShare f))
        ∗ (bigSep Finset.univ fun k => iprop(∃ f, rowsPts (F := F) (peer c k) c 1 fullShare f))) := by
  rw [pairs_eq, ← bigSep_sep', ← bigSep_sep', ← bigSep_sep']
  refine bigSep_mono fun k _ => ?_
  show (bigSep Finset.univ fun a : Fin 2 => handed (F := F) c (peer c k) (back (pair k a)) a) ⊢ _
  rw [bigSep_univ_two, dist_pair, dist_pair]
  unfold handed
  iintro ⟨⟨H₁, H₂⟩, H₃, H₄⟩
  isplitl [H₁ H₃]
  · isplitl [H₁]; · iexact H₁
    iexact H₃
  isplitl [H₂]; · iexact H₂
  iexact H₄

/-- The half blocks that arrived from the peers, and this device's own in their shares, are the result. -/
theorem gathered_join :
    iprop((bigSep Finset.univ fun i => payOf xs ws c (some (3, i)) 0) ∗ (bigSep Finset.univ fun k => payOf xs ws c (some (2, pair k 0)) 0)
        ∗ (bigSep Finset.univ fun k => payOf xs ws c (some (2, pair k 1)) 0))
      ⊢ outPts c (outC xs ws) := by
  have h (a : Fin 2) : (bigSep Finset.univ fun k => payOf xs ws c (some (2, pair k a)) 0) = rowsPts c c a fullShare (outC xs ws) := by
    rw [sevenths_eq]
    refine bigSep_congr fun k _ => ?_
    show rowsPts c c (half (pair k a)) (seventh (dist (pair k a))) (outC xs ws) = _
    rw [half_pair, dist_pair]
  have h' (a : Fin 2) (k : Fin 7) : payOf xs ws c (some (3, pair k a)) 0 = rowsPts c (peer c k) a fullShare (outC xs ws) := by
    show rowsPts c (peer c (dist (pair k a))) (half (pair k a)) fullShare (outC xs ws) = _
    rw [half_pair, dist_pair]
  rw [h 0, h 1, rows_eq, peers_eq c, pairs_eq, ← bigSep_sep', bigSep_univ_two,
    bigSep_congr fun k _ => show iprop(payOf xs ws c (some (3, pair k 0)) 0 ∗ payOf xs ws c (some (3, pair k 1)) 0)
      = bigSep Finset.univ fun a => rowsPts c (peer c k) a fullShare (outC xs ws) by rw [h' 0 k, h' 1 k, bigSep_univ_two]]
  iintro ⟨H₁, H₂, H₃⟩
  isplitl [H₂ H₃]
  · isplitl [H₂]; · iexact H₂
    iexact H₃
  iexact H₁

end Cert.KernelIdeal.Ring
end
-- ==== Proof.Ideal.Body.lean ====
/-
# The body, start to end

The loops one after another: from the buffers with any contents, the two arguments' blocks, the tokens for the duties
a device pays and the credit for its waits, to the result, the arguments unchanged and all of the cells at zero.
-/
module

public import proofs.«01_k».proof.Proof.Ideal.Deal

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)
variable (K : Dev nD × Kind → ℕ) (c : Dev nD)

/-! ## The loops -/

theorem loop_signals :
    iprop(records xs ws K ∗ (bigSep Finset.univ fun k => iprop(dutyTok ER (cell (mate c k) none) 0 (seen c k) ∗ payOf xs ws (mate c k) none (seen c k)))
        ∗ owing c (O₀ c))
      ⊢ runs c (steps 7 (signalStep c)) iprop((bigSep Finset.univ fun _ : Fin 7 => iprop(emp)) ∗ owing c (O₁ c)) :=
  runs_paying c (records xs ws K) 7 (signalStep c) _ (fun _ => iprop(emp)) (owedBar c) (O₁ c) fun k O => runs_signal xs ws K c k O

theorem loop_products :
    iprop(emp ∗ (bigSep Finset.univ fun k => iprop(∃ f, slabPts (F := F) c k f)) ∗ xPts c (xs c))
      ⊢ runs c (steps 7 (productStep c (wAt ws c))) iprop((bigSep Finset.univ fun k => slabPts c k (pbfC xs ws c)) ∗ xPts c (xs c)) :=
  runs_steps c iprop(emp) 7 (productStep c (wAt ws c)) _ _ (fun _ => xPts c (xs c)) fun k => runs_product xs ws c k

theorem loop_scatter :
    iprop(records xs ws K ∗ (bigSep Finset.univ fun i => iprop(piecePts c i (pbfC xs ws c) ∗ (∃ f, slotPts (F := F) (peer c (dist i)) (back i) f)
        ∗ dutyTok ER (cell c (some (0, i))) 0 0 ∗ dutyTok ER (cell (peer c (dist i)) (some (1, back i))) 0 0)) ∗ owing c (O₁ c))
      ⊢ runs c (steps 14 (scatterStep c)) iprop((bigSep Finset.univ fun i => cred (tallyAt (cell c (some (0, i))) () N)) ∗ owing c (O₂ c)) :=
  runs_paying c (records xs ws K) 14 (scatterStep c) _ _ (owedRs c) (O₂ c) fun i O => runs_scatter xs ws K c i O

theorem loop_adds (a : Fin 2) {O : CellTallies nD τ sig Unit} (hO : Above 2 O) :
    iprop((records xs ws K ∗ levAts L lv)
        ∗ (bigSep Finset.univ fun k => iprop(cred (tallyAt (cell c (some (1, pair k a))) () N) ∗ atPos ER (cell c (some (1, pair k a))) 0 ∅ 0))
        ∗ partPts c a (redC xs ws c a 0) ∗ owing c O)
      ⊢ runs c (steps 7 (addStep a)) iprop((bigSep Finset.univ fun k => iprop(slotPts c (pair k a) (rsC xs ws c) ∗ atPos ER (cell c (some (1, pair k a))) 1 ∅ 0))
        ∗ partPts c a (redC xs ws c a 7) ∗ owing c O) :=
  runs_steps c iprop(records xs ws K ∗ levAts L lv) 7 (addStep a) _ _ (fun n => iprop(partPts c a (redC xs ws c a n) ∗ owing c O)) fun k => runs_add xs ws K c a k hO

theorem loop_gather (a : Fin 2) (O : CellTallies nD τ sig Unit) :
    iprop(records xs ws K ∗ (bigSep Finset.univ fun k => iprop(rowsPts c c a (seventh k) (outC xs ws) ∗ (∃ f, rowsPts (F := F) (peer c k) c a fullShare f)
        ∗ dutyTok ER (cell c (some (2, pair k a))) 0 0 ∗ dutyTok ER (cell (peer c k) (some (3, pair (opp k) a))) 0 0)) ∗ owing c (O + allAg c a))
      ⊢ runs c (steps 7 (gatherStep c a)) iprop((bigSep Finset.univ fun k => cred (tallyAt (cell c (some (2, pair k a))) () N)) ∗ owing c O) :=
  runs_paying c (records xs ws K) 7 (gatherStep c a) _ _ (owedAg c a) O fun k O => runs_gather xs ws K c a k O

theorem levelOf_le (k : Kind) : levelOf k ≤ 3 := by
  revert k; decide

/-- A loop of waits on cells of this device, which by then owes nothing. -/
theorem loop_waits (n : ℕ) (k : Fin n → Kind) (w : Fin n → TpuEff nD τ sig (Elt F) Λ₀ .tc PUnit)
    (hw : ∀ i, ∀ Q : PUnit → sProp 𝕄, wpE (defs₀ (F := F)) 𝒱₀ (c : Thread nD τ) none Set.univ (w i) Q = waitSpec (c : Thread nD τ) Set.univ (semAt (k i)) (expectOf (k i)) Q) :
    iprop((records xs ws K ∗ levAts L lv) ∗ (bigSep Finset.univ fun i => iprop(cred (tallyAt (cell c (k i)) () (expectOf (k i))) ∗ atPos ER (cell c (k i)) 0 ∅ 0)) ∗ owing c 0)
      ⊢ runs c (steps n fun i => Prog.lift (w i)) iprop((bigSep Finset.univ fun i => iprop(bigSep (dutiesOf (k i)) (payOf xs ws c (k i)) ∗ atPos ER (cell c (k i)) 1 ∅ 0)) ∗ owing c 0) :=
  runs_steps c iprop(records xs ws K ∗ levAts L lv) n (fun i => Prog.lift (w i)) _ _ (fun _ => owing c 0) fun i => runs_wait xs ws K c (k i) (hw i) (levelOf_le (k i)) (above_zero 3)

theorem loop_arrive :
    iprop((records xs ws K ∗ levAts L lv) ∗ (bigSep Finset.univ fun i => iprop(cred (tallyAt (cell c (some (3, i))) () N) ∗ atPos ER (cell c (some (3, i))) 0 ∅ 0)) ∗ owing c 0)
      ⊢ runs c (steps 14 arriveStep) iprop((bigSep Finset.univ fun i => iprop(payOf xs ws c (some (3, i)) 0 ∗ atPos ER (cell c (some (3, i))) 1 ∅ 0)) ∗ owing c 0) := by
  have h := loop_waits xs ws K c 14 (fun i => some (3, i)) (fun i => .waitDma2 (semOf cc0_scratch6 i) (slotM 0) (slotM 0) (slotExact 0) (slotExact 0))
    fun i Q => wpE_waitDma2_eq 𝒱₀ (c : Thread nD τ) none Set.univ Q
  simp only [dutiesOf, bigSep_singleton] at h
  exact h

theorem loop_scattered :
    iprop((records xs ws K ∗ levAts L lv) ∗ (bigSep Finset.univ fun i => iprop(cred (tallyAt (cell c (some (0, i))) () N) ∗ atPos ER (cell c (some (0, i))) 0 ∅ 0)) ∗ owing c 0)
      ⊢ runs c (steps 14 scatteredStep) iprop((bigSep Finset.univ fun i => iprop(payOf xs ws c (some (0, i)) 0 ∗ atPos ER (cell c (some (0, i))) 1 ∅ 0)) ∗ owing c 0) := by
  have h := loop_waits xs ws K c 14 (fun i => some (0, i)) (fun i => .waitDma2 (semOf cc0_scratch3 i) (slotM (back i)) (pieceM i) (slotExact (back i)) (pieceExact i))
    fun i Q => wpE_waitDma2_eq 𝒱₀ (c : Thread nD τ) none Set.univ Q
  simp only [dutiesOf, bigSep_singleton] at h
  exact h

theorem loop_gathered (a : Fin 2) :
    iprop((records xs ws K ∗ levAts L lv) ∗ (bigSep Finset.univ fun k => iprop(cred (tallyAt (cell c (some (2, pair k a))) () N) ∗ atPos ER (cell c (some (2, pair k a))) 0 ∅ 0)) ∗ owing c 0)
      ⊢ runs c (steps 7 (gatheredStep c a)) iprop((bigSep Finset.univ fun k => iprop(payOf xs ws c (some (2, pair k a)) 0 ∗ atPos ER (cell c (some (2, pair k a))) 1 ∅ 0)) ∗ owing c 0) := by
  have h := loop_waits xs ws K c 7 (fun k => some (2, pair k a)) (fun k => .waitDma2 (semOf cc0_scratch5 (pair k a)) (shareM c a) (shareM c a) (shareExact c a) (shareExact c a))
    fun i Q => wpE_waitDma2_eq 𝒱₀ (c : Thread nD τ) none Set.univ Q
  simp only [dutiesOf, bigSep_singleton] at h
  exact h

/-- The wait on the barrier brings what all the mates handed over. -/
theorem runs_barrier :
    iprop((records xs ws K ∗ levAts L lv) ∗ (cred (tallyAt (cell c none) () 7) ∗ atPos ER (cell c none) 0 ∅ 0) ∗ owing c (O₁ c))
      ⊢ runs c (semWaitWord barS 7#32) iprop((bigSep (dutiesOf none) (payOf xs ws c none) ∗ atPos ER (cell c none) 1 ∅ 0) ∗ owing c (O₁ c)) :=
  runs_wait xs ws K c none (w := .semWait barS (7#32).toInt.toNat) (fun Q => wpE_semWait_eq 𝒱₀ (c : Thread nD τ) none Set.univ Q) (n := 1) (le_refl 1) (above_O₁ c)

/-! ## One half -/

/-- What one half of the rows needs besides its half of the running sum, and what it leaves. -/
def halfPre (a : Fin 2) : sProp 𝕄 :=
  iprop((bigSep Finset.univ fun k => iprop(cred (tallyAt (cell c (some (1, pair k a))) () N) ∗ atPos ER (cell c (some (1, pair k a))) 0 ∅ 0))
    ∗ partPts c a (ownC xs ws c) ∗ (∃ f, rowsPts (F := F) c c a fullShare f)
    ∗ (bigSep Finset.univ fun k => iprop(∃ f, rowsPts (F := F) (peer c k) c a fullShare f))
    ∗ (bigSep Finset.univ fun k => dutyTok ER (cell c (some (2, pair k a))) 0 0)
    ∗ (bigSep Finset.univ fun k => dutyTok ER (cell (peer c k) (some (3, pair (opp k) a))) 0 0))
def halfPost (a : Fin 2) : sProp 𝕄 :=
  iprop((bigSep Finset.univ fun k => slotPts c (pair k a) (rsC xs ws c)) ∗ (bigSep Finset.univ fun k => atPos ER (cell c (some (1, pair k a))) 1 ∅ 0)
    ∗ partPts c a (redC xs ws c a 7) ∗ (bigSep Finset.univ fun k => cred (tallyAt (cell c (some (2, pair k a))) () N)))

theorem runs_half (a : Fin 2) {O : CellTallies nD τ sig Unit} (hO : Above 2 (O + allAg c a)) :
    iprop((records xs ws K ∗ levAts L lv) ∗ halfPre xs ws c a ∗ owing c (O + allAg c a)) ⊢ runs c (halfSteps c a) iprop(halfPost xs ws c a ∗ owing c O) := by
  have h₁ := loop_adds xs ws K c a hO
  have h₂ := runs_act xs ws c a
  have h₃ := loop_gather xs ws K c a O
  have h₀ : partPts c a (ownC xs ws c) = partPts c a (redC xs ws c a 0) := pointsTo_congr (redC_zero xs ws c a)
  unfold halfSteps halfPre halfPost
  unfold runs at *
  rw [h₀, wp_bind]
  iintro ⟨⟨#HP, #HL⟩, ⟨HC, HR, HB, HD, HT, HT'⟩, HO⟩
  iapply (wp_wand_r _ _ _ (Q := fun _ => _))
  isplitl [HC HR HO]
  · iapply h₁
    isplitr
    · isplitr; · iexact HP
      iexact HL
    isplitl [HC]; · iexact HC
    isplitl [HR]; · iexact HR
    iexact HO
  iintro %u ⟨HS, HR, HO⟩
  rw [wp_bind]
  iapply (wp_wand_r _ _ _ (Q := fun _ => _))
  isplitl [HR HB]
  · iapply h₂
    isplitl [HR]; · iexact HR
    iexact HB
  iintro %u ⟨HR, HB⟩
  ihave HB' := (Entails.of_eq (sevenths_eq c a (outC xs ws))) $$ HB
  iapply (wp_wand_r _ _ _ (Q := fun _ => _))
  isplitl [HB' HD HT HT' HO]
  · iapply h₃
    isplitr; · iexact HP
    isplitr [HO]
    · iapply (Entails.of_eq (by rw [bigSep_sep', bigSep_sep', bigSep_sep']))
      isplitl [HB']; · iexact HB'
      isplitl [HD]; · iexact HD
      isplitl [HT]; · iexact HT
      iexact HT'
    iexact HO
  iintro %u ⟨HC', HO⟩
  ihave HS' := (Entails.of_eq (bigSep_sep' Finset.univ (fun k => (slotPts c (pair k a) (rsC xs ws c) : sProp 𝕄)) (fun k => atPos ER (cell c (some (1, pair k a))) 1 ∅ 0))) $$ HS
  icases HS' with ⟨HS, HA⟩
  isplitr [HO]
  · isplitl [HS]; · iexact HS
    isplitl [HA]; · iexact HA
    isplitl [HR]; · iexact HR
    iexact HC'
  iexact HO

/-! ## The whole body -/

/-- One part of the body, then the rest. -/
theorem runs_seq {c : Dev nD} {p q : Code F PUnit} {A B C : sProp 𝕄} (hp : A ⊢ runs c p B) : iprop(A ∗ (B -∗ runs c q C)) ⊢ runs c (p >>= fun _ => q) C := by
  unfold runs at *
  rw [wp_bind]
  iintro ⟨HA, Hk⟩
  iapply (wp_wand_r _ _ _ (Q := fun _ => B))
  isplitl [HA]; · iapply hp; iexact HA
  iintro %u HB
  iapply Hk; iexact HB

/-- The tokens a device starts with: one for each unit it will add to a cell. -/
def tokensOf : sProp 𝕄 :=
  iprop((bigSep Finset.univ fun k => dutyTok ER (cell (mate c k) none) 0 (seen c k))
    ∗ (bigSep Finset.univ fun i => dutyTok ER (cell c (some (0, i))) 0 0)
    ∗ (bigSep Finset.univ fun i => dutyTok ER (cell (peer c (dist i)) (some (1, back i))) 0 0)
    ∗ (bigSep Finset.univ fun i => dutyTok ER (cell c (some (2, i))) 0 0)
    ∗ (bigSep Finset.univ fun i => dutyTok ER (cell (peer c (dist i)) (some (3, back i))) 0 0))
/-- The credit it starts with: for its own waits that others' units answer. -/
def creditOf : sProp 𝕄 :=
  iprop(cred (tallyAt (cell c none) () 7) ∗ (bigSep Finset.univ fun i => cred (tallyAt (cell c (some (1, i))) () N))
    ∗ (bigSep Finset.univ fun i => cred (tallyAt (cell c (some (3, i))) () N)))

def bodyStart : sProp 𝕄 :=
  iprop((records xs ws K ∗ levAts L lv) ∗ (bigSep Finset.univ fun k => atPos ER (cell c k) 0 ∅ 0) ∗ tokensOf c ∗ creditOf c ∗ owing c (O₀ c)
    ∗ xPts c (xs c) ∗ wPts c (ws c) ∗ (∃ f, redPts (F := F) c f) ∗ (∃ f, pbfPts (F := F) c f) ∗ (∃ f, rsPts (F := F) c f) ∗ (∃ f, outPts (F := F) c f))
def bodyEnd : sProp 𝕄 :=
  iprop((bigSep Finset.univ fun k => semVal (cell c k) 0) ∗ owing c 0 ∗ xPts c (xs c) ∗ wPts c (ws c) ∗ (∃ f, redPts (F := F) c f) ∗ (∃ f, pbfPts (F := F) c f)
    ∗ (∃ f, rsPts (F := F) c f) ∗ outPts c (outC xs ws))

/-- A device's cells, each past its one round, close at zero. -/
theorem close_cells : iprop(records xs ws K ∗ bigSep Finset.univ fun k => atPos ER (cell c k) 1 ∅ 0) ⊢ |={Set.univ}=> bigSep Finset.univ fun k => semVal (cell c k) 0 := by
  refine Entails.trans (Entails.trans ?_ (bigSep_mono fun k _ => Rounds.cell_close ER (plan xs ws) (Set.mem_univ (K (c, k))) (fun h => h) (R := 1)
    fun r hr => duties_later xs ws (cell c k) r hr)) (bigSep_fupd _ _)
  exact bigSep_with_persistent fun k _ => sep_mono_left (records_inv xs ws K c k)

/-- The rows of a device's result are its own two half blocks and those of its mates. -/
theorem rows_split (f : Vec F S1024x1024 .bf16) :
    outPts c f = iprop((rowsPts c c 0 fullShare f ∗ rowsPts c c 1 fullShare f) ∗ bigSep Finset.univ fun k => bigSep Finset.univ fun a => rowsPts c (mate c k) a fullShare f) := by
  rw [rows_eq, mates_eq c, bigSep_univ_two]

/-- The tokens and the credit of the transfers between results, half by half. -/
theorem send_tokens :
    (bigSep Finset.univ fun i => dutyTok ER (cell (peer c (dist i)) (some (3, back i))) 0 0 : sProp 𝕄)
      = iprop((bigSep Finset.univ fun k => dutyTok ER (cell (peer c k) (some (3, pair (opp k) 0))) 0 0)
        ∗ (bigSep Finset.univ fun k => dutyTok ER (cell (peer c k) (some (3, pair (opp k) 1))) 0 0)) := by
  rw [pairs_eq]
  simp only [dist_pair, back_pair]

theorem slabs_any (f : Vec F S7x128x1024 .bf16) :
    (bigSep Finset.univ fun k => slabPts c k f) ⊢ bigSep Finset.univ fun k => iprop(∃ f, slabPts (F := F) c k f) := by
  refine bigSep_mono fun k _ => ?_
  show slabPts c k f ⊢ iprop(∃ f, slabPts (F := F) c k f)
  iintro H
  iexists f; iexact H

/-- From its start to its end, the body's loops in order. -/
theorem run_body : bodyStart xs ws K c ⊢ runs c (bodySteps c) (bodyEnd xs ws c) := by
  have hw : (wM.access allW).read (Elt F) (ws c) = wAt ws c := rfl
  unfold bodyStart tokensOf creditOf bodySteps
  iintro ⟨⟨#HP, #HL⟩, HA, ⟨HtB, Ht0, Ht1, Ht2, Ht3⟩, ⟨HcB, Hc1, Hc3⟩, HO, HX, HW, HR, ⟨%fb, HB⟩, ⟨%fs, HS⟩, ⟨%fo, HY⟩⟩
  ihave HA' := (Entails.of_eq (kinds_eq fun k => (atPos ER (cell c k) 0 ∅ 0 : sProp 𝕄))) $$ HA
  icases HA' with ⟨HaB, Ha0, Ha1, Ha2, Ha3⟩
  -- the units to the mates, with the landing places
  ihave HY' := (Entails.of_eq (rows_split c fo)) $$ HY
  icases HY' with ⟨⟨HY0, HY1⟩, HYm⟩
  ihave Hpay := (give xs ws c fs fo) $$ [HS HYm]
  · isplitl [HS] <;> iassumption
  iapply (runs_seq (loop_signals xs ws K c))
  isplitl [HtB Hpay HO]
  · isplitr; · iexact HP
    isplitr [HO]
    · iapply (Entails.of_eq (bigSep_sep' _ _ _).symm)
      isplitl [HtB] <;> iassumption
    iexact HO
  iintro ⟨-, HO⟩
  -- the products
  unfold runs
  simp only [Prog.lift, Prog.bind_op, Prog.bind_ret]
  iapply (wp_load_rect 𝒱₀ (c : Thread nD τ) none Set.univ (m := wM) (r := allW) (Finset.subset_univ _)) $$ HW
  iintro HW
  rw [hw]
  ihave HB' := (Entails.of_eq (slabs_eq c fb)) $$ HB
  iapply (runs_seq (loop_products xs ws c))
  isplitl [HB' HX]
  · isplitr; · iempintro
    isplitl [HB']
    · iapply (slabs_any c fb)
      iexact HB'
    iexact HX
  iintro ⟨HB, HX⟩
  iapply (runs_seq (runs_own xs ws c))
  isplitl [HR HX]
  · isplitl [HR] <;> iassumption
  iintro ⟨HR, HX⟩
  -- the wait for the mates
  iapply (runs_seq (runs_barrier xs ws K c))
  isplitl [HcB HaB HO]
  · isplitr
    · isplitr; · iexact HP
      iexact HL
    isplitl [HcB HaB]
    · isplitl [HcB] <;> iassumption
    iexact HO
  iintro ⟨⟨Hpay, HaB⟩, HO⟩
  ihave Hland := (take xs ws c) $$ Hpay
  icases Hland with ⟨Hl1, Hm0, Hm1⟩
  -- the partial sums go out
  ihave HB1 := (Entails.of_eq (slabs_eq c (pbfC xs ws c)).symm) $$ HB
  ihave HB2 := (Entails.of_eq (pieces_eq c (pbfC xs ws c))) $$ HB1
  iapply (runs_seq (loop_scatter xs ws K c))
  isplitl [HB2 Hl1 Ht0 Ht1 HO]
  · isplitr; · iexact HP
    isplitr [HO]
    · iapply (Entails.of_eq (by rw [bigSep_sep', bigSep_sep', bigSep_sep']))
      isplitl [HB2]; · iexact HB2
      isplitl [Hl1]; · iexact Hl1
      isplitl [Ht0] <;> iassumption
    iexact HO
  iintro ⟨Hc0, HO⟩
  -- the two halves
  ihave HR' := (Entails.of_eq (parts_eq c (ownC xs ws c))) $$ HR
  icases HR' with ⟨HR0, HR1⟩
  ihave Hc1' := (Entails.of_eq (pairs_eq fun i => (cred (tallyAt (cell c (some (1, i))) () N) : sProp 𝕄))) $$ Hc1
  icases Hc1' with ⟨Hc10, Hc11⟩
  ihave Ha1' := (Entails.of_eq (pairs_eq fun i => (atPos ER (cell c (some (1, i))) 0 ∅ 0 : sProp 𝕄))) $$ Ha1
  icases Ha1' with ⟨Ha10, Ha11⟩
  ihave Ha2' := (Entails.of_eq (pairs_eq fun i => (atPos ER (cell c (some (2, i))) 0 ∅ 0 : sProp 𝕄))) $$ Ha2
  icases Ha2' with ⟨Ha20, Ha21⟩
  ihave Ht2' := (Entails.of_eq (pairs_eq fun i => (dutyTok ER (cell c (some (2, i))) 0 0 : sProp 𝕄))) $$ Ht2
  icases Ht2' with ⟨Ht20, Ht21⟩
  ihave Ht3' := (Entails.of_eq (send_tokens c)) $$ Ht3
  icases Ht3' with ⟨Ht30, Ht31⟩
  iapply (runs_seq (runs_half xs ws K c 0 (O := allAg c 1) (above_O₂ c)))
  isplitl [HR0 Hc10 Ha10 HY0 Hm0 Ht20 Ht30 HO]
  · isplitr
    · isplitr; · iexact HP
      iexact HL
    isplitr [HO]
    · unfold halfPre
      isplitl [Hc10 Ha10]
      · iapply (Entails.of_eq (bigSep_sep' _ _ _).symm)
        isplitl [Hc10] <;> iassumption
      isplitl [HR0]; · iexact HR0
      isplitl [HY0]; · iexists fo; iexact HY0
      isplitl [Hm0]; · iexact Hm0
      isplitl [Ht20] <;> iassumption
    iexact HO
  unfold halfPost
  iintro ⟨⟨HS0, Ha10, HR0, Hc20⟩, HO⟩
  iapply (runs_seq (runs_half xs ws K c 1 (O := 0) (by rw [zero_add]; exact above_ag c 1)))
  isplitl [HR1 Hc11 Ha11 HY1 Hm1 Ht21 Ht31 HO]
  · isplitr
    · isplitr; · iexact HP
      iexact HL
    isplitr [HO]
    · unfold halfPre
      isplitl [Hc11 Ha11]
      · iapply (Entails.of_eq (bigSep_sep' _ _ _).symm)
        isplitl [Hc11] <;> iassumption
      isplitl [HR1]; · iexact HR1
      isplitl [HY1]; · iexists fo; iexact HY1
      isplitl [Hm1]; · iexact Hm1
      isplitl [Ht21] <;> iassumption
    rw [zero_add]
    iexact HO
  unfold halfPost
  iintro ⟨⟨HS1, Ha11, HR1, Hc21⟩, HO⟩
  -- the last waits
  iapply (runs_seq (loop_arrive xs ws K c))
  isplitl [Hc3 Ha3 HO]
  · isplitr
    · isplitr; · iexact HP
      iexact HL
    isplitr [HO]
    · iapply (Entails.of_eq (bigSep_sep' _ _ _).symm)
      isplitl [Hc3] <;> iassumption
    iexact HO
  iintro ⟨H3, HO⟩
  ihave H3' := (Entails.of_eq (bigSep_sep' Finset.univ (fun i => payOf xs ws c (some (3, i)) 0) (fun i => atPos ER (cell c (some (3, i))) 1 ∅ 0))) $$ H3
  icases H3' with ⟨Hp3, Ha3⟩
  iapply (runs_seq (loop_scattered xs ws K c))
  isplitl [Hc0 Ha0 HO]
  · isplitr
    · isplitr; · iexact HP
      iexact HL
    isplitr [HO]
    · iapply (Entails.of_eq (bigSep_sep' _ _ _).symm)
      isplitl [Hc0] <;> iassumption
    iexact HO
  iintro ⟨H0, HO⟩
  ihave H0' := (Entails.of_eq (bigSep_sep' Finset.univ (fun i => payOf xs ws c (some (0, i)) 0) (fun i => atPos ER (cell c (some (0, i))) 1 ∅ 0))) $$ H0
  icases H0' with ⟨Hp0, Ha0⟩
  iapply (runs_seq (loop_gathered xs ws K c 0))
  isplitl [Hc20 Ha20 HO]
  · isplitr
    · isplitr; · iexact HP
      iexact HL
    isplitr [HO]
    · iapply (Entails.of_eq (bigSep_sep' _ _ _).symm)
      isplitl [Hc20] <;> iassumption
    iexact HO
  iintro ⟨H20, HO⟩
  ihave H20' := (Entails.of_eq (bigSep_sep' Finset.univ (fun k => payOf xs ws c (some (2, pair k 0)) 0) (fun k => atPos ER (cell c (some (2, pair k 0))) 1 ∅ 0))) $$ H20
  icases H20' with ⟨Hp20, Ha20⟩
  unfold runs
  iapply (wp_fupd frame (wpE (defs₀ (F := F)) 𝒱₀ (c : Thread nD τ) none) Set.univ _ _)
  iapply (wp_wand_r _ _ _ (Q := fun _ => _))
  isplitl [Hc21 Ha21 HO]
  · iapply (loop_gathered xs ws K c 1)
    isplitr
    · isplitr; · iexact HP
      iexact HL
    isplitr [HO]
    · iapply (Entails.of_eq (bigSep_sep' _ _ _).symm)
      isplitl [Hc21] <;> iassumption
    iexact HO
  iintro %u ⟨H21, HO⟩
  ihave H21' := (Entails.of_eq (bigSep_sep' Finset.univ (fun k => payOf xs ws c (some (2, pair k 1)) 0) (fun k => atPos ER (cell c (some (2, pair k 1))) 1 ∅ 0))) $$ H21
  icases H21' with ⟨Hp21, Ha21⟩
  -- every cell closes
  imod (close_cells xs ws K c) $$ [HaB Ha0 Ha10 Ha11 Ha20 Ha21 Ha3] with Hz
  · isplitr; · iexact HP
    iapply (Entails.of_eq (kinds_eq fun k => (atPos ER (cell c k) 1 ∅ 0 : sProp 𝕄)).symm)
    isplitl [HaB]; · iexact HaB
    isplitl [Ha0]; · iexact Ha0
    isplitl [Ha10 Ha11]
    · iapply (Entails.of_eq (pairs_eq fun i => (atPos ER (cell c (some (1, i))) 1 ∅ 0 : sProp 𝕄)).symm)
      isplitl [Ha10] <;> iassumption
    isplitl [Ha20 Ha21]
    · iapply (Entails.of_eq (pairs_eq fun i => (atPos ER (cell c (some (2, i))) 1 ∅ 0 : sProp 𝕄)).symm)
      isplitl [Ha20] <;> iassumption
    iexact Ha3
  imodintro
  unfold bodyEnd
  isplitl [Hz]; · iexact Hz
  isplitl [HO]; · iexact HO
  isplitl [HX]; · iexact HX
  isplitl [HW]; · iexact HW
  isplitl [HR0 HR1]
  · iapply (parts_join xs ws c)
    isplitl [HR0] <;> iassumption
  isplitl [Hp0]
  · iexists (pbfC xs ws c)
    iapply (Entails.of_eq (pieces_eq c (pbfC xs ws c)).symm)
    iexact Hp0
  isplitl [HS0 HS1]
  · iexists (rsC xs ws c)
    iapply (Entails.of_eq ((slots_eq c (rsC xs ws c)).trans (pairs_eq _)).symm)
    isplitl [HS0] <;> iassumption
  iapply (gathered_join xs ws c)
  isplitl [Hp3]; · iexact Hp3
  isplitl [Hp20] <;> iassumption

/-- Asking for the device's number answers with it. -/
theorem runs_deviceId {c : Dev nD} {f : Dev nD → Code F PUnit} {A B : sProp 𝕄} (h : A ⊢ runs c (f c) B) : A ⊢ runs c (Prog.lift .deviceId >>= fun d => f d) B := by
  unfold runs at *
  simp only [Prog.lift, Prog.bind_op, Prog.bind_ret]
  rw [wp_deviceId]
  exact h

/-- The printed body. -/
theorem sound_body :
    bodyStart xs ws K c ⊢ runs c (cc0_body xM (Memref.isWhole_whole _) wM (Memref.isWhole_whole _) outM (Memref.isWhole_whole _) redM (Memref.isWhole_whole _) pbfM (Memref.isWhole_whole _)
      rsM (Memref.isWhole_whole _) cc0_scratch3 cc0_scratch4 cc0_scratch5 cc0_scratch6) (bodyEnd xs ws c) :=
  (runs_deviceId (f := bodySteps) (run_body xs ws K c)).trans (Entails.of_eq (congrArg (fun p => runs c p (bodyEnd xs ws c)) body_eq).symm)

end Cert.KernelIdeal.Ring
end
-- ==== Proof.Ideal.Ghost.lean ====
/-
# What the launch deals

The records of all cells are made at once, every device receives them, its own places in its cells' rounds, the tokens of
the units it will pay, and as credit exactly what the other devices owe its cells at the start.
-/
module

public import proofs.«01_k».proof.Proof.Ideal.Body

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S1024x128 .bf16) (ws : Dev nD → Vec F S128x1024 .bf16)

/-! ## Cells and tokens -/

def everyCell : Finset (GSem nD τ sig) := Finset.univ.map ⟨fun ck : Dev nD × Kind => cell ck.1 ck.2, cell_injective⟩

/-- The duties of the barriers, and those of the transfers. -/
def greetingTok (p : Dev nD × Fin 7) : GSem nD τ sig × ℕ × Fin 7 := (cell p.1 none, 0, p.2)
def transferTok (p : Dev nD × (Fin 4 × Fin 14)) : GSem nD τ sig × ℕ × Fin 7 := (cell p.1 (some p.2), 0, 0)

theorem greetingTok_injective : Function.Injective greetingTok := fun p q h =>
  Prod.ext (cell_inj (congrArg Prod.fst h)).1 (congrArg (fun x => x.2.2) h)
theorem transferTok_injective : Function.Injective transferTok := fun p q h =>
  Prod.ext (cell_inj (congrArg Prod.fst h)).1 (Option.some.inj (cell_inj (congrArg Prod.fst h)).2)

def greetingToks : Finset (GSem nD τ sig × ℕ × Fin 7) := Finset.univ.map ⟨greetingTok, greetingTok_injective⟩
def transferToks : Finset (GSem nD τ sig × ℕ × Fin 7) := Finset.univ.map ⟨transferTok, transferTok_injective⟩

theorem toks_disjoint : Disjoint greetingToks transferToks := by
  rw [Finset.disjoint_left]
  intro x hx hy
  obtain ⟨p, -, rfl⟩ := Finset.mem_map.mp hx
  obtain ⟨q, -, h⟩ := Finset.mem_map.mp hy
  exact Option.some_ne_none _ (cell_inj (congrArg Prod.fst h)).2

def u₀ : UU :=
  (initOf (Pipeline.cells cfgs cellOf_inj) (Pipeline.launchToks cfgs cellOf_inj), initOf everyCell (greetingToks ∪ transferToks))

/-! ## Families over the cells -/

/-- A family over a device's cells is the barrier's member and the transfers'. -/
theorem kinds_split (Φ : Kind → sProp 𝕄) : bigSep Finset.univ Φ = iprop(Φ none ∗ bigSep Finset.univ fun pi => Φ (some pi)) := by
  have h : (Finset.univ : Finset Kind) = insert none (Finset.univ.map Function.Embedding.some) := by decide
  have hn : (none : Kind) ∉ Finset.univ.map (Function.Embedding.some (α := Fin 4 × Fin 14)) := by decide
  rw [h, bigSep_insert hn, bigSep_map]; rfl

/-- A family over a device's transfer cells, phase by phase. -/
theorem phases_eq (Φ : Fin 4 × Fin 14 → sProp 𝕄) :
    bigSep Finset.univ Φ = iprop((bigSep Finset.univ fun i => Φ (0, i)) ∗ (bigSep Finset.univ fun i => Φ (1, i))
      ∗ (bigSep Finset.univ fun i => Φ (2, i)) ∗ (bigSep Finset.univ fun i => Φ (3, i))) := by
  rw [bigSep_univ_prod, bigSep_univ_eq_bigSepL [0, 1, 2, 3] (by decide) (by decide) (fun p : Fin 4 => bigSep Finset.univ fun i => Φ (p, i))]; rfl

/-! ## The deal -/

/-- The tokens of a device's own cells. -/
def ownToks (c : Dev nD) : sProp 𝕄 :=
  iprop((bigSep Finset.univ fun d => dutyTok ER (cell c none) 0 d) ∗ bigSep Finset.univ fun pi => dutyTok ER (cell c (some pi)) 0 0)

/-- What the launch element holds for a device. -/
def dealt (c : Dev nD) : sProp 𝕄 :=
  iprop((bigSep Finset.univ fun k => roundState ER (plan xs ws) (cell c k) 0)
    ∗ ((bigSep Finset.univ fun k => atPos ER (cell c k) 0 ∅ 0) ∗ bigSep Finset.univ fun k => reached ER (cell c k) 0) ∗ ownToks c)

theorem fund : BI.own (ER (initOf everyCell (greetingToks ∪ transferToks))) ⊢ (|==> bigSep Finset.univ (dealt xs ws) : sProp 𝕄) := by
  have hX (Φ : GSem nD τ sig → sProp 𝕄) : bigSep everyCell Φ = bigSep Finset.univ fun c : Dev nD => bigSep Finset.univ fun k => Φ (cell c k) := by
    unfold everyCell; rw [bigSep_map, bigSep_univ_prod]; rfl
  have hT : bigSep (greetingToks ∪ transferToks) (fun x => (dutyTok ER x.1 x.2.1 x.2.2 : sProp 𝕄)) = bigSep Finset.univ fun c : Dev nD => ownToks c := by
    unfold ownToks
    rw [bigSep_union toks_disjoint, bigSep_sep']
    unfold greetingToks transferToks
    rw [bigSep_map, bigSep_map, bigSep_univ_prod, bigSep_univ_prod]; rfl
  iintro HX
  imod (Rounds.fund ER (plan xs ws) everyCell (greetingToks ∪ transferToks)) $$ HX with ⟨Hst, Hr, Hat, Htok⟩
  imodintro
  ihave Hst' := (Entails.of_eq (hX fun g => roundState ER (plan xs ws) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The tokens go from the cells' owners to the devices that pay. -/
theorem tokens_around : (bigSep Finset.univ fun c : Dev nD => (ownToks c : sProp 𝕄)) = bigSep Finset.univ fun c : Dev nD => tokensOf c := by
  have hg : (bigSep Finset.univ fun c : Dev nD => bigSep Finset.univ fun d => (dutyTok ER (cell c none) 0 d : sProp 𝕄))
      = bigSep Finset.univ fun c : Dev nD => bigSep Finset.univ fun k => dutyTok ER (cell (mate c k) none) 0 (seen c k) := by
    rw [← bigSep_univ_prod (fun cd : Dev nD × Fin 7 => (dutyTok ER (cell cd.1 none) 0 cd.2 : sProp 𝕄)), bigSep_univ_equiv greet, bigSep_univ_prod]; rfl
  have hw (p : Fin 4) : (bigSep Finset.univ fun c : Dev nD => bigSep Finset.univ fun i => (dutyTok ER (cell c (some (p, i))) 0 0 : sProp 𝕄))
      = bigSep Finset.univ fun c : Dev nD => bigSep Finset.univ fun i => dutyTok ER (cell (peer c (dist i)) (some (p, back i))) 0 0 := by
    rw [← bigSep_univ_prod (fun ci : Dev nD × Fin 14 => (dutyTok ER (cell ci.1 (some (p, ci.2))) 0 0 : sProp 𝕄)), bigSep_univ_equiv wire, bigSep_univ_prod]; rfl
  unfold ownToks tokensOf
  simp only [phases_eq, bigSep_sep']
  rw [hg, hw 1, hw 3]

/-- The semaphores of the kernel's own arrays. -/
abbrev osem (pi : Fin 4 × Fin 14) : SemLoc sig := semAt (some pi)
theorem osem_facts : Pipeline.OwnSemFacts cfg0.spec osem where
  isScoped := by decide
  inj p q h := Option.some.inj (semAt_injective h)
  disj := by decide

abbrev ownZero (c : Dev nD) : sProp 𝕄 := Pipeline.ownSems0 (Ix := Unit) (Name := ℕ) (U := UU) (Lvl := ℕ) (Val := Elt F) (τ := τ) osem c

theorem unscoped_eq (c : Dev nD) : (unscopedSems0 c : sProp 𝕄) = semVal (cell c none) 0 := by
  unfold unscopedSems0; rw [bigSep_eq_bigSepL_of_eq [SemLoc.reg barS] (by decide) (by decide)]; rfl

/-- All of a device's cells at zero are the barrier's and the kernel's own. -/
theorem zero_eq (c : Dev nD) : (bigSep Finset.univ fun k => semVal (cell c k) 0 : sProp 𝕄) = iprop(unscopedSems0 c ∗ ownZero c) := by
  rw [kinds_split, unscoped_eq]; rfl

/-- What a device starts its body with, but for its memory. -/
def kit (K : Dev nD × Kind → ℕ) (c : Dev nD) : sProp 𝕄 :=
  iprop(records xs ws K ∗ (bigSep Finset.univ fun k => atPos ER (cell c k) 0 ∅ 0) ∗ tokensOf c)

theorem allocate (c : Dev nD) :
    iprop(ownZero c ∗ unscopedSems0 c ∗ dealt xs ws c)
      ⊢ |={Set.univ}=> iprop((bigSep Finset.univ fun k => iprop(∃ κ : ℕ, cellInv ER (plan xs ws) κ (cell c k)))
          ∗ ((bigSep Finset.univ fun k => atPos ER (cell c k) 0 ∅ 0) ∗ bigSep Finset.univ fun k => reached ER (cell c k) 0) ∗ ownToks c) := by
  unfold dealt
  iintro ⟨Hos, Hus, Hst, Hat, Htok⟩
  have h : iprop((bigSep Finset.univ fun k => semVal (cell c k) 0) ∗ bigSep Finset.univ fun k => roundState ER (plan xs ws) (cell c k) 0)
      ⊢ (|={Set.univ}=> bigSep Finset.univ fun k => iprop(∃ κ : ℕ, cellInv ER (plan xs ws) κ (cell c k)) : sProp 𝕄) := by
    rw [← bigSep_sep']
    exact (bigSep_mono fun k _ => (Rounds.body_intro ER (plan xs ws) (cell c k)).trans inv_alloc).trans (bigSep_fupd _ _)
  imod h $$ [Hos Hus Hst] with Hinv
  · isplitr [Hst]
    · rw [zero_eq]
      isplitl [Hus] <;> iassumption
    iexact Hst
  imodintro
  isplitl [Hinv]; · iexact Hinv
  isplitl [Hat]; · iexact Hat
  iexact Htok

theorem kit_intro (K : Dev nD × Kind → ℕ) (c : Dev nD) :
    iprop(records xs ws K ∗ (bigSep Finset.univ fun k => atPos ER (cell c k) 0 ∅ 0) ∗ tokensOf c) ⊢ iprop(∃ K, kit xs ws K c) := by
  unfold kit
  iintro H
  iexists K; iexact H

theorem share_out :
    (bigSep Finset.univ fun c : Dev nD => iprop((bigSep Finset.univ fun k => iprop(∃ κ : ℕ, cellInv ER (plan xs ws) κ (cell c k)))
          ∗ ((bigSep Finset.univ fun k => atPos ER (cell c k) 0 ∅ 0) ∗ bigSep Finset.univ fun k => reached ER (cell c k) 0) ∗ ownToks c) : sProp 𝕄)
      ⊢ bigSep Finset.univ fun c => iprop(∃ K, kit xs ws K c) := by
  rw [bigSep_sep', bigSep_sep', bigSep_sep', tokens_around, ← bigSep_univ_prod (fun ck : Dev nD × Kind => iprop(∃ κ : ℕ, cellInv ER (plan xs ws) κ (cell ck.1 ck.2))),
    ← bigSep_univ_prod (fun ck : Dev nD × Kind => (reached ER (cell ck.1 ck.2) 0 : sProp 𝕄))]
  iintro ⟨HI, ⟨Hat, #HR⟩, Htok⟩
  ihave HK := (BI.bigSep_exists_pi Finset.univ (fun (ck : Dev nD × Kind) (κ : ℕ) => (cellInv ER (plan xs ws) κ (cell ck.1 ck.2) : sProp 𝕄))) $$ HI
  icases HK with ⟨%K, #HI⟩
  have h : iprop(records xs ws K ∗ bigSep Finset.univ fun c : Dev nD => iprop((bigSep Finset.univ fun k => atPos ER (cell c k) 0 ∅ 0) ∗ tokensOf c))
      ⊢ bigSep Finset.univ fun c => iprop(∃ K, kit xs ws K c) := bigSep_with_persistent fun c _ => kit_intro xs ws K c
  iapply h
  isplitr
  · unfold records
    isplitl; · iexact HI
    iexact HR
  rw [bigSep_sep']
  isplitl [Hat] <;> iassumption

/-- Every device's share, from the semaphores of all devices at zero and the launch element. -/
theorem deal_all : (bigSep Finset.univ fun c => iprop(ownZero c ∗ unscopedSems0 c ∗ dealt xs ws c) : sProp 𝕄)
    ⊢ |={Set.univ}=> bigSep Finset.univ fun c => iprop(∃ K, kit xs ws K c) :=
  ((bigSep_mono fun c _ => allocate xs ws c).trans (bigSep_fupd _ _)).trans (BI.fupd_mono (share_out xs ws))

/-! ## The credit -/

/-- What all devices together owe one cell, when what they owe is told by a bijection from the payers to the paid. -/
theorem owed_through {ι : Type} [Fintype ι] (e : Dev nD × ι ≃ Dev nD × ι) (κ : ι → Kind) (n : ℕ) (c : Dev nD) (k : Kind) :
    ∑ d : Dev nD, (∑ i, (tallyAt (cell (e (d, i)).1 (κ (e (d, i)).2)) () n : CellTallies nD τ sig Unit)) (cell c k) () = ∑ i, if κ i = k then n else 0 := by
  have h (d : Dev nD) : (∑ i, (tallyAt (cell (e (d, i)).1 (κ (e (d, i)).2)) () n : CellTallies nD τ sig Unit)) (cell c k) ()
      = ∑ i, (tallyAt (cell (e (d, i)).1 (κ (e (d, i)).2)) () n : CellTallies nD τ sig Unit) (cell c k) () := by
    rw [Finset.sum_apply, Finsupp.finset_sum_apply]
  rw [Finset.sum_congr rfl fun d _ => h d, ← Fintype.sum_prod_type' (f := fun d i => (tallyAt (cell (e (d, i)).1 (κ (e (d, i)).2)) () n : CellTallies nD τ sig Unit) (cell c k) ()),
    Equiv.sum_comp e (fun p => (tallyAt (cell p.1 (κ p.2)) () n : CellTallies nD τ sig Unit) (cell c k) ()), Fintype.sum_prod_type_right]
  refine Finset.sum_congr rfl fun i _ => ?_
  rw [Finset.sum_eq_single c]
  · rw [tallyAt_apply]
    by_cases hk : κ i = k
    · rw [if_pos hk, if_pos ⟨by rw [hk], rfl⟩]
    · rw [if_neg hk, if_neg fun h' => hk (cell_inj h'.1).2.symm]
  · intro d _ hd
    rw [tallyAt_apply, if_neg fun h' => hd (cell_inj h'.1).1.symm]
  · exact fun h => absurd (Finset.mem_univ c) h

/-- The debts of the transfers of the result, over all transfers. -/
theorem O₂_eq (c : Dev nD) : O₂ c = ∑ i, (tallyAt (cell (peer c (dist i)) (some (3, back i))) () N : CellTallies nD τ sig Unit) := by
  rw [← Equiv.sum_comp pairEquiv, Fintype.sum_prod_type_right, Fin.sum_univ_two]
  unfold O₂ allAg owedAg
  rw [add_comm]
  have h (a : Fin 2) : ∑ k, (tallyAt (cell (peer c k) (some (3, pair (opp k) a))) () N : CellTallies nD τ sig Unit)
      = ∑ k, tallyAt (cell (peer c (dist (pairEquiv (k, a)))) (some (3, back (pairEquiv (k, a))))) () N :=
    Finset.sum_congr rfl fun k _ => by
      show _ = tallyAt (cell (peer c (dist (pair k a))) (some (3, back (pair k a)))) () N
      rw [dist_pair, back_pair]
  rw [h 0, h 1]

/-- What all devices owe a cell at the start: seven units on a barrier, one transfer where a transfer arrives. -/
theorem owed_total (c : Dev nD) (k : Kind) :
    ∑ d : Dev nD, O₀ d (cell c k) () = (∑ i : Fin 14, if some (3, i) = k then N else 0) + (∑ i : Fin 14, if some (1, i) = k then N else 0) + ∑ _i : Fin 7, if none = k then 1 else 0 := by
  have h (d : Dev nD) : O₀ d (cell c k) () = (∑ i, (tallyAt (cell (wire (d, i)).1 (some (3, (wire (d, i)).2))) () N : CellTallies nD τ sig Unit)) (cell c k) ()
      + (∑ i, (tallyAt (cell (wire (d, i)).1 (some (1, (wire (d, i)).2))) () N : CellTallies nD τ sig Unit)) (cell c k) ()
      + (∑ i, (tallyAt (cell (greet (d, i)).1 none) () 1 : CellTallies nD τ sig Unit)) (cell c k) () := by
    unfold O₀ O₁
    rw [O₂_eq]; rfl
  rw [Finset.sum_congr rfl fun d _ => h d, Finset.sum_add_distrib, Finset.sum_add_distrib,
    owed_through wire (fun i => some (3, i)) N c k, owed_through wire (fun i => some (1, i)) N c k, owed_through greet (fun _ => none) 1 c k]

theorem credit_at (c : Dev nD) (k : Kind) (n : ℕ) (hn : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, hn]

theorem credits (c : Dev nD) : (Pipeline.launchCred O₀ c : sProp 𝕄) ⊢ creditOf c := by
  have hb : ∑ d : Dev nD, O₀ d (cell c none) () = 7 := by rw [owed_total]; simp
  have h1 (i : Fin 14) : ∑ d : Dev nD, O₀ d (cell c (some (1, i))) () = N := by rw [owed_total]; simp
  have h3 (i : Fin 14) : ∑ d : Dev nD, O₀ d (cell c (some (3, i))) () = N := by rw [owed_total]; simp
  have hs : (Pipeline.launchCred O₀ c : sProp 𝕄)
      ⊢ bigSep Finset.univ fun k : Kind => cred (tallyOn (cell c k) (launchCredit (Pipeline.owing O₀) 0 (cell c k))) := by
    unfold Pipeline.launchCred
    refine BI.Entails.trans (BI.bigSep_subset (Finset.subset_univ (Finset.univ.map ⟨semAt, semAt_injective⟩))) ?_
    rw [bigSep_map]
    exact BI.Entails.refl _
  refine hs.trans ?_
  rw [kinds_eq, credit_at c none 7 hb]
  simp only [fun i => credit_at c (some (1, i)) N (h1 i), fun i => credit_at c (some (3, i)) N (h3 i)]
  unfold creditOf
  iintro ⟨HB, -, H1, -, H3⟩
  isplitl [HB]; · iexact HB
  isplitl [H1]; · iexact H1
  iexact H3

end Cert.KernelIdeal.Ring
end
-- ==== Proof.Ideal.Run.lean ====
/-
# The run of the program

The pipeline's data, its obligation for the body, and the run of all devices: it ends, the arguments hold what they held,
the result of every device is `outC` of the arguments' blocks, and every semaphore is back at zero.
-/
module

public import proofs.«01_k».proof.Proof.Ideal.Ghost
public import proofs.«01_k».proof.Proof.Gen.KernelIdeal.Points
public import Idealize.ShloMosaic.Lib.Pipeline.CollectiveSegs

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, all counters at zero. -/
def begin₀ : MemSt nD τ sig (Elt F) := ⟨m, fun _ => 0, ρ⟩

/-- The arguments' blocks, as the pipeline stages them. -/
def argX (c : Dev nD) : Vec F S1024x128 .bf16 := (win0_0.blk (0 : Fin 1)).view.read (Elt F) (m ((c : Thread nD τ).loc main_arg0))
def argW (c : Dev nD) : Vec F S128x1024 .bf16 := (win0_1.blk (0 : Fin 1)).view.read (Elt F) (m ((c : Thread nD τ).loc main_arg1))

/-- What the kernel's buffers are before the body: any contents. -/
def anyScratch (c : Dev nD) : sProp 𝕄 :=
  iprop((∃ f, redPts (F := F) c f) ∗ (∃ f, pbfPts (F := F) c f) ∗ (∃ f, rsPts (F := F) c f))
def ready (c : Dev nD) : sProp 𝕄 := iprop((∃ K, kit (argX m) (argW m) K c) ∗ creditOf c ∗ levAts L lv)

def dats (_ : Fin 1) (c : Dev nD) : Dat τ (Elt F) Unit ℕ UU ℕ cfg0 c where
  A w := (begin₀ m ρ).mem ((cfg0.win w).arr.view.loc (c : Thread nD τ))
  after w _ := match w with
    | ⟨0, _⟩ => argX m c
    | ⟨1, _⟩ => argW m c
    | ⟨2, _⟩ => outC (argX m) (argW m)
  Φ t := match t with
    | ⟨0, _⟩ => iprop(ready m c ∗ anyScratch c)
    | ⟨_ + 1, _⟩ => iprop(anyScratch c ∗ bigSep Finset.univ fun k => semVal (cell c k) 0)
  q _ := fullShare
  owed t := match t with
    | ⟨0, _⟩ => O₀ c
    | ⟨_ + 1, _⟩ => 0

/-- A staging buffer whole at `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def stepStart (c : Dev nD) : sProp 𝕄 :=
  iprop((ready m c ∗ anyScratch c) ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
def stepEnd (c : Dev nD) : sProp 𝕄 :=
  iprop((anyScratch c ∗ bigSep Finset.univ fun k => semVal (cell c k) 0) ∗ (dats m ρ 0 c).owesAt () t0_0.succ
    ∗ staged c cc0_stg0_0 (argX m c) ∗ staged c cc0_stg1_0 (argW m c) ∗ staged c cc0_stg2_0 (outC (argX m) (argW m)))

theorem before_x (c : Dev nD) (d) : (dats m ρ 0 c).before (0 : Fin 3) t0_0 d = argX m c := by
  unfold Dat.before
  rw [if_pos (fetch0_0 t0_0)]; rfl
theorem before_w (c : Dev nD) (d) : (dats m ρ 0 c).before (1 : Fin 3) t0_0 d = argW m c := by
  unfold Dat.before
  rw [if_pos (fetch0_1 t0_0)]; rfl

theorem stepStart_body (c : Dev nD) : stepStart m ρ c ⊢ iprop(∃ K, bodyStart (argX m) (argW m) K c) := by
  unfold stepStart ready anyScratch kit Dat.owesAt Pipeline.owesWithin
  rw [show (dats m ρ 0 c).owed t0_0.castSucc = O₀ c from rfl]
  iintro ⟨⟨⟨⟨%K, HP, HA, HT⟩, HC, HL⟩, HR, HB, HS⟩, ⟨%W, -, HO⟩, ⟨%d0, %f0, %h0, HX⟩, ⟨%d1, %f1, %h1, HW⟩, ⟨%d2, %f2, -, HY⟩⟩
  rw [before_x] at h0
  rw [before_w] at h1
  subst h0
  subst h1
  iexists K
  unfold bodyStart owing
  isplitl [HP HL]
  · isplitl [HP] <;> iassumption
  isplitl [HA]; · iexact HA
  isplitl [HT]; · iexact HT
  isplitl [HC]; · iexact HC
  isplitl [HO]; · iexists W; iexact HO
  isplitl [HX]; · iexact HX
  isplitl [HW]; · iexact HW
  isplitl [HR]; · iexact HR
  isplitl [HB]; · iexact HB
  isplitl [HS]; · iexact HS
  iexists f2; iexact HY

theorem bodyEnd_step (c : Dev nD) : bodyEnd (argX m) (argW m) c ⊢ stepEnd m ρ c := by
  unfold bodyEnd stepEnd owing anyScratch Dat.owesAt Pipeline.owesWithin
  rw [show (dats m ρ 0 c).owed t0_0.succ = 0 from rfl]
  iintro ⟨Hz, ⟨%W, HO⟩, HX, HW, HR, HB, HS, HY⟩
  isplitl [Hz HR HB HS]
  · isplitr [Hz]
    · isplitl [HR]; · iexact HR
      isplitl [HB] <;> iassumption
    iexact Hz
  isplitl [HO]
  · iexists W
    isplitr; · ipureintro; exact fun _ _ => Or.inl trivial
    iexact HO
  isplitl [HX]
  · iexists _; isplitr; · (ipureintro; rfl)
    iexact HX
  isplitl [HW]
  · iexists _; isplitr; · (ipureintro; rfl)
    iexact HW
  iexists _; isplitr; · (ipureintro; rfl)
  iexact HY

theorem step_runs (c : Dev nD) :
    stepStart m ρ c ⊢ runs c (cc0_body xM (Memref.isWhole_whole _) wM (Memref.isWhole_whole _) outM (Memref.isWhole_whole _) redM (Memref.isWhole_whole _) pbfM (Memref.isWhole_whole _)
      rsM (Memref.isWhole_whole _) cc0_scratch3 cc0_scratch4 cc0_scratch5 cc0_scratch6) (stepEnd m ρ c) := by
  have h (K) : bodyStart (argX m) (argW m) K c ⊢ runs c (cc0_body xM (Memref.isWhole_whole _) wM (Memref.isWhole_whole _) outM (Memref.isWhole_whole _) redM (Memref.isWhole_whole _) pbfM (Memref.isWhole_whole _)
      rsM (Memref.isWhole_whole _) cc0_scratch3 cc0_scratch4 cc0_scratch5 cc0_scratch6) (stepEnd m ρ c) :=
    (sound_body (argX m) (argW m) K c).trans (wp_mono _ _ _ fun _ => bodyEnd_step m ρ c)
  refine (stepStart_body m ρ c).trans ?_
  iintro ⟨%K, H⟩
  iapply (h K); iexact H

set_option maxRecDepth 65536 in
/-- The body does on every device what the pipeline asks of it. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact step_runs m ρ c

/-! ## The launch -/

theorem share_full (c : Dev nD) (w : Fin cfg0.W) : (dats m ρ 0 c).share w = fullShare := by unfold Dat.share; split <;> rfl

theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, kit (argX m) (argW m) K c))
      ⊢ |={Set.univ}=> iprop(ready m c ∗ emp) := by
  iintro ⟨-, Hlev, Hcr, -, HG⟩
  ihave Hc := (credits (F := F) c) $$ Hcr
  imodintro
  unfold ready
  isplitl
  · isplitl [HG]; · iexact HG
    isplitl [Hc] <;> iassumption
  · iempintro

theorem first_intro (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(ready m c ∗ anyScratch c) from rfl, scopedRest0_eq]
  unfold anyScratch
  iintro ⟨Hs, -, Hr⟩
  isplitl [Hs] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(anyScratch c ∗ bigSep Finset.univ fun k => semVal (cell c k) 0) from rfl, scopedRest0_eq, zero_eq]
  unfold anyScratch
  iintro ⟨Hr, Hu, Ho⟩
  isplitl [Hu]; · iexact Hu
  isplitl [Ho] <;> iassumption

theorem stage_level : ∀ (w : Fin 3) (s : Fin (cfg0.win w).nbuf) (c : Dev nD), lv ((c : Thread nD τ), .dma ((cfg0.win w).sem s)) () ≤ 0 := by decide

theorem waits (c : Dev nD) : (levAts L lv : sProp 𝕄) ⊢ Pipeline.cellsWaits cfgs (dats m ρ) () 0 c :=
  Pipeline.cellsWaits_intro cfgs (dats m ρ) () 0 c fun w s t =>
    mayWait_of c _ (stage_level w s c) (by
      rcases t with ⟨_ | _, ht⟩
      · exact above_O₀ c
      · exact above_zero 0)

/-- Every array after the run is what the pipeline's data say. -/
def Ends : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 65536 in
/-- Every fair run of all devices ends, every array as the pipeline's data say and every semaphore at zero. -/
theorem run_main : θ_run defs (onTc (τ := τ) (main (F := F))) (begin₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt (argX m) (argW m)) (G' := fun c => iprop(∃ K, kit (argX m) (argW m) K c)) (u₀ := u₀)
    (hu₀ := by
      unfold u₀
      iintro Hu
      ihave H := (ownU_pair _ _) $$ Hu
      icases H with ⟨HP, HX⟩
      imod (fund (argX m) (argW m)) $$ HX with HG
      imodintro
      isplitl [HP] <;> iassumption)
    (hglob := deal_all (argX m) (argW m))
    (hA := fun _ _ => rfl) (hpf := fun _ k => k.elim0)
    (X := ready m) (Y := fun c => unscopedSems0 c) (Z := fun _ => iprop(emp))
    (hX := ready_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
end
-- ==== Proof.Ideal.Results.lean ====
/-
# The arrays after the run

What the run leaves in the program's three arrays: the arguments hold what they held, and the result of every device is
`outC` of the arguments of all devices.
-/
module

public import proofs.«01_k».proof.Proof.Ideal.Run

@[expose] public section

set_option backward.proofsInPublic true

noncomputable section

namespace Cert.KernelIdeal.Ring

open Cert.KernelIdeal Cert.KernelIdeal.Gen Cert.Eight
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Each window's only block is its whole array, so the block read back is the array. -/
theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_w (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_y (f : main_v1.ty.Contents (Elt F)) : (win0_2.blk (0 : Fin 1)).view.read (Elt F) f = f :=
  Memref.read_access_unit_zero (Elt F) main_v1 (funext fun a => by fin_cases a <;> decide) (fun a => by fin_cases a <;> decide) f

/-- The blocks of all devices, as they lie in the argument arrays. -/
def blocksX (c : Dev nD) : Vec F S1024x128 .bf16 := m ((c : Thread nD τ).loc main_arg0)
def blocksW (c : Dev nD) : Vec F S128x1024 .bf16 := m ((c : Thread nD τ).loc main_arg1)
theorem argX_eq : argX m = blocksX m := funext fun _ => read_x _
theorem argW_eq : argW m = blocksW m := funext fun _ => read_w _

/-- The result array ends as the kernel's staged result. -/
theorem result_eq (c : Dev nD) : (dats m ρ 0 c).arrAt (2 : Fin 3) cfg0.N = outC (blocksX m) (blocksW m) := by
  refine (read_y (F := F) _).symm.trans ?_
  rw [← argX_eq, ← argW_eq, show cfg0.N = ((0 : Fin 1) : Fin cfg0.N).val + 1 from rfl, (dats m ρ 0 c).arrAt_succ (2 : Fin 3) (0 : Fin 1),
    if_pos (show (cfg0.win (2 : Fin 3)).flush (0 : Fin 1) = true from by decide)]
  exact View.read_write_univ _ _

/-- Every fair run ends with the result array of each device at `outC`, both arguments unchanged, and every semaphore
at zero. -/
theorem results : θ_run defs (onTc (τ := τ) (main (F := F))) ⟨m, fun _ => 0, ρ⟩ (fun r =>
    (∀ c : Dev nD, r.2.mem ((c : Thread nD τ).loc main_v1) = outC (blocksX m) (blocksW m)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (result_eq m ρ c),
    (h.1 c (0 : Fin 3)).trans ((dats m ρ 0 c).arrAt_in (0 : Fin 3) rfl _),
    (h.1 c (1 : Fin 3)).trans ((dats m ρ 0 c).arrAt_in (1 : Fin 3) rfl _)⟩, h.2⟩) (run_main m ρ)

end Cert.KernelIdeal.Ring
end
-- ==== Proof.Frames.lean ====
/-
# What the programs leave unchanged

Every run of each program ends with the arguments as they were and all semaphores at zero.
-/
module

public import proofs.«01_k».proof.Defs
public import proofs.«01_k».proof.Proof.Plain.Results
public import proofs.«01_k».proof.Proof.Ideal.Results
public import proofs.«01_k».proof.Proof.Gen.ReferenceIdeal.Run
public import Idealize.ShloMosaic.Adequacy

@[expose] public section

noncomputable section

namespace Cert.Proof

open Idealize.ShloMosaic Idealize.SL.Sem

/-- The kernel on words. -/
theorem frame_kernel : Cert.quiescent_Kernel := fun m ρ _ =>
  (θ_run Cert.Kernel.defs _ _).mono (fun _ h => ⟨fun c => (h.1 c).2, h.2⟩) (Cert.Kernel.Ring.results (F := Bits) m ρ)

/-- The kernel on the extended reals. -/
theorem frame_ideal : Cert.quiescent_KernelIdeal := fun m ρ _ =>
  (θ_run Cert.KernelIdeal.defs _ _).mono (fun _ h => ⟨fun c => (h.1 c).2, h.2⟩) (Cert.KernelIdeal.Ring.results (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
end
-- ==== Proof.Sums.lean ====
/-
# Sums and the activation on the extended reals

The sum over 1024 positions as eight sums of 128, the sum over the ring of devices as one device's term and its seven
peers', and the activation in the two ways in which it is written.
-/
module

public import proofs.«01_k».proof.Proof.Index
public import Idealize.ShloMosaic.PureOps.Ideal
public import Mathlib.Algebra.BigOperators.Fin
public import Mathlib.Data.EReal.Operations

@[expose] public section

set_option backward.proofsInPublic true

noncomputable section

namespace Cert.Eight

open Idealize.ShloMosaic
open scoped BigOperators

/-- Position `k` of the block of 128 numbered `d`. -/
def place (d : Fin 8) (k : Fin 128) : Fin 1024 := ⟨128 * d.val + k.val, by omega⟩

/-- A sum over all positions is the sum over the blocks of the sums over each block. -/
theorem sum_blocks {M : Type*} [AddCommMonoid M] (f : Fin 1024 → M) : ∑ t, f t = ∑ d : Fin 8, ∑ k : Fin 128, f (place d k) := by
  rw [← Fintype.sum_prod_type' (fun d k => f (place d k))]
  refine (Fintype.sum_equiv (finProdFinEquiv (m := 8) (n := 128)) _ _ fun p => ?_).symm
  exact congrArg f (Fin.ext (Nat.add_comm _ _))

/-- The peers of a device are the other devices. -/
theorem peers_others (d : Fin 8) : Finset.univ.image (peer d) = Finset.univ.erase d := by revert d; decide

/-- A device's term and its peers' terms are the terms of all devices. -/
theorem sum_ring {M : Type*} [AddCommMonoid M] (f : Fin 8 → M) (d : Fin 8) : f d + ∑ k : Fin 7, f (peer d k) = ∑ e, f e := by
  rw [← Finset.add_sum_erase _ f (Finset.mem_univ d), ← peers_others, Finset.sum_image fun a _ b _ h => peer_inj d h]

/-- The same with the peers counted by a natural number. -/
theorem sum_ring_range {M : Type*} [AddCommMonoid M] (f : Fin 8 → M) (d : Fin 8) :
    f d + ∑ j ∈ Finset.range 7, f (peer d (Fin.ofNat 7 j)) = ∑ e, f e := by
  rw [← sum_ring f d, Finset.sum_range]
  have h (j : Fin 7) : Fin.ofNat 7 j.val = j := Fin.ext (Nat.mod_eq_of_lt j.isLt)
  simp only [h]

/-- The activation, with its four constants by their words. -/
def act (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The cubic term may be multiplied from the left. -/
theorem act_left (y : EReal) : Ideal.ofBits .f32 0x3F000000#32 * y * (Ideal.ofBits .f32 0x3F800000#32
    + Ideal.tanh (Ideal.ofBits .f32 0x3F4C422A#32 * (y + Ideal.ofBits .f32 0x3D372713#32 * y * y * y))) = act y := by
  unfold act; rw [mul_assoc, mul_assoc (Ideal.ofBits .f32 0x3D372713#32), mul_assoc y]
  simp only [mul_assoc]

end Cert.Eight
end
-- ==== Proof.Value.lean ====
/-
# The result as one formula

Over the extended reals each device's result is the activation of the whole product: the device that owns a row adds to
its own partial product those of its seven peers, and these eight are the sum over all 1024 positions.
-/
module

public import proofs.«01_k».proof.Proof.Sums
public import proofs.«01_k».proof.Proof.Ideal.Contents
public import Idealize.ShloMosaic.Lib.ValueIdx
public import Idealize.ShloMosaic.Lib.ValueLayout
public import Idealize.ShloMosaic.Lib.MatmulPlain
public import Idealize.ShloMosaic.Lib.Pipeline.Value

@[expose] public section

set_option backward.proofsInPublic true

noncomputable section

namespace Cert.KernelIdeal.Ring

open Cert.KernelIdeal Cert.KernelIdeal.Gen Cert.Eight
open Idealize.ShloMosaic
open Idealize.ShloMosaic.ValueIdx
open scoped BigOperators

variable (xs : Dev nD → Vec Ideal S1024x128 .bf16) (ws : Dev nD → Vec Ideal S128x1024 .bf16)

/-- The part of the product's entry at row `r` and column `n` that device `e` computes. -/
def portion (r n : Fin 1024) (e : Dev nD) : EReal := ∑ k : Fin 128, xs e (ix2 r k) * ws e (ix2 k n)

/-- Row `r` of the rows that device `d` owns. -/
abbrev owned (d : Dev nD) (r : Fin 128) : Fin 1024 := place d r

/-! ## The kernel's expressions at an element -/

theorem pay1_eq (w : Vec Ideal S128x1024 .bf16) : k0_pay1 w = w := shapeCast_self w _

/-- A product of 128 rows by the weights, at an element. -/
theorem product_at (x : FVec Ideal S128x128 .bf16) (w : FVec Ideal S128x1024 .bf16) (r : Fin 128) (n : Fin 1024) :
    matmul dot_S128x128_S128x1024_S128x1024_1_0_0_1_n_n none x w (constant S128x1024 .f32 0x00000000#32) (ix2 r n)
      = ∑ k : Fin 128, x (ix2 r k) * w (ix2 k n) := by
  refine (Ideal.matmul_plain_apply none x w (constant S128x1024 .f32 0x00000000#32) r n).trans ?_
  rw [constant_apply, show Ideal.ofBits .f32 0x00000000#32 = 0 by simp [Ideal.ofBits, Ideal.ieee], zero_add]

theorem pay2_at (w : Vec Ideal S128x1024 .bf16) (x : Vec Ideal S128x128 .bf16) (u : Fin 1) (r : Fin 128) (n : Fin 1024) :
    k0_pay2 w x (ix3 u r n) = ∑ k : Fin 128, x (ix2 r k) * w (ix2 k n) := by
  unfold k0_pay2
  rw [pay1_eq, shapeCast_self]
  exact (shapeCast_ab_1ab_apply _ _ u r n).trans (product_at x w r n)

theorem pay11_at (w : Vec Ideal S128x1024 .bf16) (x : Vec Ideal S128x128 .bf16) (r : Fin 128) (n : Fin 1024) :
    k0_pay11 (k0_pay1 w) x (ix2 r n) = ∑ k : Fin 128, x (ix2 r k) * w (ix2 k n) := by
  unfold k0_pay11
  rw [pay1_eq, shapeCast_self x, shapeCast_self]
  exact product_at x w r n

theorem pay12_at (s : Vec Ideal S64x1024 .f32) (p : Vec Ideal S1x64x1024 .bf16) (r : Fin 64) (n : Fin 1024) :
    k0_pay12 s p (ix2 r n) = s (ix2 r n) + p (ix3 0 r n) := by
  unfold k0_pay12
  rw [shapeCast_self]
  exact congrArg (s (ix2 r n) + ·) (shapeCast_1ab_ab_apply p _ r n)

theorem pay19_at (s : Vec Ideal S64x1024 .f32) (i : S64x1024.Idx) : k0_pay19 s i = act (s i) := act_left (s i)

/-! ## What is multiplied, sent and added -/

theorem wAt_at (c : Dev nD) (k : Fin 128) (n : Fin 1024) : wAt ws c (ix2 k n) = ws c (ix2 k n) := by
  show ws c (allW.emb (ix2 k n)) = _
  congr 1
  funext b
  match b with
  | ⟨0, _⟩ => exact Fin.ext (by simp [Rect.emb_apply])
  | ⟨1, _⟩ => exact Fin.ext (by simp [Rect.emb_apply])

theorem xAt_at (c : Dev nD) (j : Fin 7) (r k : Fin 128) : xAt xs c j (ix2 r k) = xs c (ix2 (owned (peer c j) r) k) := by
  show xs c ((sendRows c j).emb (ix2 r k)) = _
  congr 1
  funext b
  match b with
  | ⟨0, _⟩ => exact Fin.ext (by simp [Rect.emb_apply, sendRows_eq, place])
  | ⟨1, _⟩ => exact Fin.ext (by simp [Rect.emb_apply, sendRows_eq])

theorem xOwn_at (c : Dev nD) (r k : Fin 128) : xOwn xs c (ix2 r k) = xs c (ix2 (owned c r) k) := by
  show xs c ((ownRows c).emb (ix2 r k)) = _
  congr 1
  funext b
  match b with
  | ⟨0, _⟩ => exact Fin.ext (by simp [Rect.emb_apply, k0_off2_eq, place])
  | ⟨1, _⟩ => exact Fin.ext (by simp [Rect.emb_apply, k0_off2_eq])

theorem prodAt_at (c : Dev nD) (j : Fin 7) (r : Fin 128) (n : Fin 1024) :
    prodAt xs ws c j (ix3 0 r n) = portion xs ws (owned (peer c j) r) n c := by
  unfold prodAt portion
  rw [pay2_at]
  simp only [xAt_at, wAt_at]

theorem ownC_at (c : Dev nD) (r : Fin 128) (n : Fin 1024) : ownC xs ws c (ix2 r n) = portion xs ws (owned c r) n c := by
  unfold ownC portion
  rw [pay11_at]
  simp only [xOwn_at, wAt_at]

/-- Row `r` of half `a`. -/
def halfRow (a : Fin 2) (r : Fin 64) : Fin 128 := ⟨64 * a.val + r.val, by omega⟩

/-- The half block that peer `j` sent holds the peer's part of this device's rows. -/
theorem rsAt_at (c : Dev nD) (j : Fin 7) (a : Fin 2) (r : Fin 64) (n : Fin 1024) :
    rsAt xs ws c (pair j a) (ix3 0 r n) = portion xs ws (owned c (halfRow a r)) n (peer c j) := by
  have h : (slot (pair j a)).emb (ix3 0 r n) = ix3 (pair j a) r n := by
    funext b
    match b with
    | ⟨0, _⟩ => exact Fin.ext (by simp [Rect.emb_apply])
    | ⟨1, _⟩ => exact Fin.ext (by simp [Rect.emb_apply])
    | ⟨2, _⟩ => exact Fin.ext (by simp [Rect.emb_apply])
  show rsC xs ws c ((slot (pair j a)).emb (ix3 0 r n)) = _
  rw [h]
  show prodAt xs ws (peer c (dist (pair j a))) (dist (back (pair j a))) (ix3 0 ⟨64 * (half (pair j a)).val + r.val, _⟩ n) = _
  rw [prodAt_at, back_pair, dist_pair, dist_pair, peer_opp]
  congr 2
  exact Fin.ext (by simp [half_pair, halfRow])

/-- The running sum: the device's own part and those of the peers already added. -/
theorem sumAt_at (c : Dev nD) (a : Fin 2) (m : ℕ) (r : Fin 64) (n : Fin 1024) :
    sumAt xs ws c a m (ix2 r n) = portion xs ws (owned c (halfRow a r)) n c
      + ∑ j ∈ Finset.range m, portion xs ws (owned c (halfRow a r)) n (peer c (Fin.ofNat 7 j)) := by
  induction m with
  | zero =>
    rw [Finset.range_zero, Finset.sum_empty, add_zero, ← ownC_at]
    show ownC xs ws c ((part a).emb (ix2 r n)) = _
    congr 1
    funext b
    match b with
    | ⟨0, _⟩ => exact Fin.ext (by simp [Rect.emb_apply, halfRow])
    | ⟨1, _⟩ => exact Fin.ext (by simp [Rect.emb_apply])
  | succ m ih =>
    rw [Finset.sum_range_succ, ← add_assoc, ← ih]
    exact (pay12_at _ _ r n).trans (congrArg (sumAt xs ws c a m (ix2 r n) + ·) (rsAt_at xs ws c _ a r n))

/-- After all additions it is the sum over all devices. -/
theorem sum_all (c : Dev nD) (a : Fin 2) (r : Fin 64) (n : Fin 1024) :
    sumAt xs ws c a 7 (ix2 r n) = ∑ e, portion xs ws (owned c (halfRow a r)) n e :=
  (sumAt_at xs ws c a 7 r n).trans (sum_ring_range (portion xs ws (owned c (halfRow a r)) n) c)

/-- The result at an element: the activation of the sum of all devices' parts. -/
theorem outC_at (r n : Fin 1024) : outC xs ws (ix2 r n) = act (∑ e, portion xs ws r n e) := by
  have hr : owned (rowDev r) (halfRow (rowHalf r) ⟨r.val % 64, Nat.mod_lt _ (by decide)⟩) = r :=
    Fin.ext (by simp only [place, halfRow, rowDev, rowHalf]; omega)
  show k0_pay19 (sumAt xs ws (rowDev r) (rowHalf r) 7) (ix2 ⟨r.val % 64, _⟩ n) = _
  rw [pay19_at, sum_all, hr]

end Cert.KernelIdeal.Ring
end
-- ==== Proof.Agreement.lean ====
/-
# The kernel and the reference agree

The reference's result at an element is the activation of the sum over all 1024 positions. Cut into the eight devices'
blocks, this is what the kernel leaves on every device.
-/
module

public import proofs.«01_k».proof.Defs
public import proofs.«01_k».proof.Proof.Value
public import proofs.«01_k».proof.Proof.Ideal.Results
public import proofs.«01_k».proof.Proof.Gen.ReferenceIdeal.Run
public import Idealize.ShloMosaic.Lib.StackMember
public import Idealize.ShloMosaic.Lib.Layout

@[expose] public section

set_option backward.proofsInPublic true

noncomputable section

namespace Cert.Proof

open Idealize.ShloMosaic Idealize.ShloMosaic.ValueIdx Idealize.ShloMosaic.StackMember Idealize.SL.Sem
open Cert.Eight Cert.KernelIdeal.Ring
open Cert.ReferenceIdeal Cert.ReferenceIdeal.Gen
open scoped BigOperators

/-- The reference's activation of an array. -/
abbrev refAct (p : FVec Ideal S1024x1024 .f32) : FVec Ideal S1024x1024 .bf16 :=
  truncf .bf16 (mulf (mulf (broadcastInDim S1024x1024 ![] bcast_S_S1024x1024 (constant S_ .f32 0x3F000000#32)) (extf .f32 (truncf .bf16 p bitsLt_bf16_f32) bitsLt_bf16_f32))
    (addf (broadcastInDim S1024x1024 ![] bcast_S_S1024x1024 (constant S_ .f32 0x3F800000#32))
      (Host.tanh (mulf (broadcastInDim S1024x1024 ![] bcast_S_S1024x1024 (constant S_ .f32 0x3F4C422A#32))
        (addf (extf .f32 (truncf .bf16 p bitsLt_bf16_f32) bitsLt_bf16_f32)
          (mulf (broadcastInDim S1024x1024 ![] bcast_S_S1024x1024 (constant S_ .f32 0x3D372713#32))
            (mulf (mulf (extf .f32 (truncf .bf16 p bitsLt_bf16_f32) bitsLt_bf16_f32) (extf .f32 (truncf .bf16 p bitsLt_bf16_f32) bitsLt_bf16_f32))
              (extf .f32 (truncf .bf16 p bitsLt_bf16_f32) bitsLt_bf16_f32)))))))) bitsLt_bf16_f32

theorem refAct_at (p : FVec Ideal S1024x1024 .f32) (i : S1024x1024.Idx) : refAct p i = act (p i) := rfl

/-- The reference's result for the whole arrays. -/
def refOut (X W : FVec Ideal S1024x1024 .bf16) : FVec Ideal S1024x1024 .bf16 :=
  refAct (Host.dotGeneral dot_S1024x1024_S1024x1024_S1024x1024_1_0_0_1_n_n none X W)

theorem refOut_at (X W : FVec Ideal S1024x1024 .bf16) (r n : Fin 1024) :
    refOut X W (ix2 r n) = act (∑ t : Fin 1024, X (ix2 r t) * W (ix2 t n)) :=
  (refAct_at _ _).trans (congrArg act (dotGeneral_plain_apply none X W r n))

/-- Block `c` of the activations holds positions `128 c …` of each row, and block `c` of the weights those of each column. -/
theorem block_x (X : FVec Ideal S1024x1024 .bf16) (c : Fin 8) (r : Fin 1024) (k : Fin 128) :
    (Layout.block ⟨2, ![1024, 128]⟩ ⟨2, ![1024, 1024]⟩ 1 8 c X : (⟨2, ![1024, 128]⟩ : Shape).Idx → EReal) (ix2 r k) = X (ix2 r (place c k)) := by
  refine congrArg X (funext fun b => Fin.ext ?_)
  match b with
  | ⟨0, _⟩ => rfl
  | ⟨1, _⟩ => exact congrArg (· + k.val) (Nat.mul_comm _ _)
theorem block_w (W : FVec Ideal S1024x1024 .bf16) (c : Fin 8) (k : Fin 128) (n : Fin 1024) :
    (Layout.block ⟨2, ![128, 1024]⟩ ⟨2, ![1024, 1024]⟩ 0 8 c W : (⟨2, ![128, 1024]⟩ : Shape).Idx → EReal) (ix2 k n) = W (ix2 (place c k) n) := by
  refine congrArg W (funext fun b => Fin.ext ?_)
  match b with
  | ⟨0, _⟩ => exact congrArg (· + k.val) (Nat.mul_comm _ _)
  | ⟨1, _⟩ => rfl

/-- Of the blocks of whole arrays the kernel computes the reference's result. -/
theorem outC_refOut (X W : FVec Ideal S1024x1024 .bf16) :
    outC (F := Ideal) (fun c => Layout.block ⟨2, ![1024, 128]⟩ ⟨2, ![1024, 1024]⟩ 1 8 c X)
      (fun c => Layout.block ⟨2, ![128, 1024]⟩ ⟨2, ![1024, 1024]⟩ 0 8 c W) = refOut X W := by
  funext i
  rw [eq_ix2 i]
  refine (outC_at _ _ (i 0) (i 1)).trans ((refOut_at X W (i 0) (i 1)).trans (congrArg act ?_)).symm
  rw [sum_blocks]
  refine Finset.sum_congr rfl fun c _ => Finset.sum_congr rfl fun k _ => ?_
  exact (congrArg₂ (· * ·) (block_x X c (i 0) k) (block_w W c k (i 1))).symm

/-- From memories that agree on the arguments, every device of the kernel ends with the reference's result, and both
leave their arguments unchanged. -/
theorem agreement : Cert.algebraic_KernelIdeal_ReferenceIdeal := by
  intro m ρ m' ρ' _ hargs
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · have hx : blocksX m = fun c => Layout.block ⟨2, ![1024, 128]⟩ ⟨2, ![1024, 1024]⟩ 1 8 c
        (m' (((0 : Dev Cert.ReferenceIdeal.nD).tc : Thread Cert.ReferenceIdeal.nD Cert.ReferenceIdeal.τ).loc Cert.ReferenceIdeal.main_arg0)) :=
      funext fun c => (hargs c).1
    have hw : blocksW m = fun c => Layout.block ⟨2, ![128, 1024]⟩ ⟨2, ![1024, 1024]⟩ 0 8 c
        (m' (((0 : Dev Cert.ReferenceIdeal.nD).tc : Thread Cert.ReferenceIdeal.nD Cert.ReferenceIdeal.τ).loc Cert.ReferenceIdeal.main_arg1)) :=
      funext fun c => (hargs c).2
    have hv := (congrArg₂ (outC (F := Ideal)) hx hw).trans (outC_refOut _ _)
    exact (θ_run Cert.KernelIdeal.defs _ _).mono (fun _ h c => ⟨(h.1 c).1.trans hv, (h.1 c).2⟩) (results (F := Ideal) m ρ)
  · exact (θ_run Cert.ReferenceIdeal.defs _ _).mono (fun _ h => h 0) (Cert.ReferenceIdeal.Value.run (F := Ideal) m' ρ')

end Cert.Proof
end
-- ==== Proof.lean ====
/-
# The claims together

The frames of the three programs, the kernel's idealization, and its agreement with the reference.
-/
module

public import proofs.«01_k».proof.Defs
public import proofs.«01_k».proof.Proof.Frames
public import proofs.«01_k».proof.Proof.Agreement

@[expose] public section

noncomputable section

namespace Cert.Proof

/-- Every claim. -/
theorem claim : Cert.Claim := ⟨Cert.Kernel.Gen.facts, Cert.KernelIdeal.Gen.facts, Cert.ReferenceIdeal.Gen.facts,
  frame_kernel, frame_ideal, frame_reference, trivial, agreement⟩

end Cert.Proof

end
